-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S16x64x1024 : Shape := ⟨3, ![16, 64, 1024]⟩
abbrev S64x1024 : Shape := ⟨2, ![64, 1024]⟩
abbrev S16 : Shape := ⟨1, ![16]⟩
abbrev S_ : Shape := ⟨0, ![]⟩
abbrev S128x1024 : Shape := ⟨2, ![128, 1024]⟩
abbrev S128x2048 : Shape := ⟨2, ![128, 2048]⟩
abbrev S2x64x1024 : Shape := ⟨3, ![2, 64, 1024]⟩
abbrev S1 : Shape := ⟨1, ![1]⟩
abbrev S1x64x1024 : Shape := ⟨3, ![1, 64, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S2048x1024, .bf16⟩
  | .hbm, ⟨3, _⟩ => ⟨S1024x1024, .bf16⟩
  | .local _ .vmem, ⟨0, _⟩ => ⟨S1024x1024, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S16x64x1024, .bf16⟩
  | .local _ .vmem, ⟨5, _⟩ => ⟨S16x64x1024, .bf16⟩
  | .local _ .vmem, ⟨6, _⟩ => ⟨S64x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_71 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let v86 : BitVec 32 := Scalar.addi v85 c0_i32_71
  let c8_i32_72 : BitVec 32 := 8#32
  let v87 : BitVec 32 := Scalar.remsi v86 c8_i32_72
  let c128_i32 : BitVec 32 := 128#32
  let v88 : BitVec 32 := Scalar.muli v87 c128_i32
  let v89 : Index := Scalar.indexCast v88
  let c0_73 : Index := 0#32
  ![v89.toNat, 0]
def k0_off2 (d0 : Dev nD) (c0_i32_71 : BitVec 32) : Fin 3 → Nat :=
  let c2_i32_76 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let v86 : BitVec 32 := Scalar.addi v85 c0_i32_71
  let c8_i32_72 : BitVec 32 := 8#32
  let v87 : BitVec 32 := Scalar.remsi v86 c8_i32_72
  let v99 : BitVec 32 := Scalar.muli c2_i32_76 v87
  let v100 : Index := Scalar.indexCast v99
  let c0_77 : Index := 0#32
  let c0_78 : Index := 0#32
  ![v100.toNat, 0, 0]
def k0_cond1 (d0 : Dev nD) : BitVec 1 :=
  let c2_i32_80 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v104 : BitVec 32 := Scalar.muli c2_i32_80 v87
  let c0_i32_81 : BitVec 32 := 0#32
  let v105 : BitVec 32 := Scalar.addi v2 c0_i32_81
  let c2_i32_82 : BitVec 32 := 2#32
  let v106 : BitVec 32 := Scalar.remsi v105 c2_i32_82
  let v107 : BitVec 32 := Scalar.addi v104 v106
  let v108 : BitVec 1 := Scalar.cmpi .ne v107 v2
  let v109 : BitVec 32 := Scalar.extui v108
  let c0_i32_83 : BitVec 32 := 0#32
  let v110 : BitVec 1 := Scalar.cmpi .ne v109 c0_i32_83
  v110

def k0_off3 (d0 : Dev nD) : Fin 1 → Nat :=
  let c2_i32_80 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v104 : BitVec 32 := Scalar.muli c2_i32_80 v87
  let c0_i32_81 : BitVec 32 := 0#32
  let v105 : BitVec 32 := Scalar.addi v2 c0_i32_81
  let c2_i32_82 : BitVec 32 := 2#32
  let v106 : BitVec 32 := Scalar.remsi v105 c2_i32_82
  let v107 : BitVec 32 := Scalar.addi v104 v106
  ![v107.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off6 (d0 : Dev nD) : Fin 3 → Nat :=
  let c2_i32_80 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v104 : BitVec 32 := Scalar.muli c2_i32_80 v87
  let c0_i32_81 : BitVec 32 := 0#32
  let v105 : BitVec 32 := Scalar.addi v2 c0_i32_81
  let c2_i32_82 : BitVec 32 := 2#32
  let v106 : BitVec 32 := Scalar.remsi v105 c2_i32_82
  let v107 : BitVec 32 := Scalar.addi v104 v106
  let c0_i32_791 : BitVec 32 := 0#32
  let c0_i32_792 : BitVec 32 := 0#32
  ![v107.toNat, 0, 0]
def k0_dev16 (d0 : Dev nD) : Nat :=
  let c0_i32_788 : BitVec 32 := 0#32
  let c2_i32_80 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v104 : BitVec 32 := Scalar.muli c2_i32_80 v87
  let c0_i32_81 : BitVec 32 := 0#32
  let v105 : BitVec 32 := Scalar.addi v2 c0_i32_81
  let c2_i32_82 : BitVec 32 := 2#32
  let v106 : BitVec 32 := Scalar.remsi v105 c2_i32_82
  let v107 : BitVec 32 := Scalar.addi v104 v106
  let c1_i32_787 : BitVec 32 := 1#32
  let v1185 : BitVec 32 := Scalar.muli v107 c1_i32_787
  let v1186 : BitVec 32 := Scalar.addi c0_i32_788 v1185
  v1186.toNat
def k0_cond2 (d0 : Dev nD) : BitVec 1 :=
  let c2_i32_84 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v111 : BitVec 32 := Scalar.muli c2_i32_84 v87
  let c1_i32_85 : BitVec 32 := 1#32
  let v112 : BitVec 32 := Scalar.addi v2 c1_i32_85
  let c2_i32_86 : BitVec 32 := 2#32
  let v113 : BitVec 32 := Scalar.remsi v112 c2_i32_86
  let v114 : BitVec 32 := Scalar.addi v111 v113
  let v115 : BitVec 1 := Scalar.cmpi .ne v114 v2
  let v116 : BitVec 32 := Scalar.extui v115
  let c0_i32_87 : BitVec 32 := 0#32
  let v117 : BitVec 1 := Scalar.cmpi .ne v116 c0_i32_87
  v117

def k0_off7 (d0 : Dev nD) : Fin 1 → Nat :=
  let c2_i32_84 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v111 : BitVec 32 := Scalar.muli c2_i32_84 v87
  let c1_i32_85 : BitVec 32 := 1#32
  let v112 : BitVec 32 := Scalar.addi v2 c1_i32_85
  let c2_i32_86 : BitVec 32 := 2#32
  let v113 : BitVec 32 := Scalar.remsi v112 c2_i32_86
  let v114 : BitVec 32 := Scalar.addi v111 v113
  ![v114.toNat]
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off10 (d0 : Dev nD) : Fin 3 → Nat :=
  let c2_i32_84 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v111 : BitVec 32 := Scalar.muli c2_i32_84 v87
  let c1_i32_85 : BitVec 32 := 1#32
  let v112 : BitVec 32 := Scalar.addi v2 c1_i32_85
  let c2_i32_86 : BitVec 32 := 2#32
  let v113 : BitVec 32 := Scalar.remsi v112 c2_i32_86
  let v114 : BitVec 32 := Scalar.addi v111 v113
  let c0_i32_791 : BitVec 32 := 0#32
  let c0_i32_792 : BitVec 32 := 0#32
  ![v114.toNat, 0, 0]
def k0_dev17 (d0 : Dev nD) : Nat :=
  let c0_i32_788 : BitVec 32 := 0#32
  let c2_i32_84 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v69 : BitVec 1 := Scalar.cmpi .sgt v2 c0_i32_64
  let v70 : BitVec 32 := Scalar.extui v69
  let c0_i32_65 : BitVec 32 := 0#32
  let v71 : BitVec 1 := Scalar.cmpi .slt v2 c0_i32_65
  let v72 : BitVec 32 := Scalar.extui v71
  let v73 : BitVec 32 := Scalar.subi v70 v72
  let c2_i32_63 : BitVec 32 := 2#32
  let c0_i32_66 : BitVec 32 := 0#32
  let v74 : BitVec 1 := Scalar.cmpi .sgt c2_i32_63 c0_i32_66
  let v75 : BitVec 32 := Scalar.extui v74
  let c0_i32_67 : BitVec 32 := 0#32
  let v76 : BitVec 1 := Scalar.cmpi .slt c2_i32_63 c0_i32_67
  let v77 : BitVec 32 := Scalar.extui v76
  let v78 : BitVec 32 := Scalar.subi v75 v77
  let v79 : BitVec 1 := Scalar.cmpi .ne v73 v78
  let v80 : BitVec 32 := Scalar.remsi v2 c2_i32_63
  let c0_i32_68 : BitVec 32 := 0#32
  let v81 : BitVec 1 := Scalar.cmpi .ne v80 c0_i32_68
  let v82 : BitVec 1 := Scalar.andi v79 v81
  let v68 : BitVec 32 := Scalar.divsi v2 c2_i32_63
  let c1_i32_69 : BitVec 32 := 1#32
  let v83 : BitVec 32 := Scalar.subi v68 c1_i32_69
  let v84 : BitVec 32 := Scalar.select v82 v83 v68
  let c1_i32_70 : BitVec 32 := 1#32
  let v85 : BitVec 32 := Scalar.addi v84 c1_i32_70
  let c0_i32_71 : BitVec 32 := 0#32
  let v86 : BitVec 32 := Scalar.addi v85 c0_i32_71
  let c8_i32_72 : BitVec 32 := 8#32
  let v87 : BitVec 32 := Scalar.remsi v86 c8_i32_72
  let v111 : BitVec 32 := Scalar.muli c2_i32_84 v87
  let c1_i32_85 : BitVec 32 := 1#32
  let v112 : BitVec 32 := Scalar.addi v2 c1_i32_85
  let c2_i32_86 : BitVec 32 := 2#32
  let v113 : BitVec 32 := Scalar.remsi v112 c2_i32_86
  let v114 : BitVec 32 := Scalar.addi v111 v113
  let c1_i32_787 : BitVec 32 := 1#32
  let v1185 : BitVec 32 := Scalar.muli v114 c1_i32_787
  let v1186 : BitVec 32 := Scalar.addi c0_i32_788 v1185
  v1186.toNat
def k0_cond3 (d0 : Dev nD) : BitVec 1 :=
  let c2_i32_106 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v154 : BitVec 32 := Scalar.muli c2_i32_106 v137
  let c0_i32_107 : BitVec 32 := 0#32
  let v155 : BitVec 32 := Scalar.addi v2 c0_i32_107
  let c2_i32_108 : BitVec 32 := 2#32
  let v156 : BitVec 32 := Scalar.remsi v155 c2_i32_108
  let v157 : BitVec 32 := Scalar.addi v154 v156
  let v158 : BitVec 1 := Scalar.cmpi .ne v157 v2
  let v159 : BitVec 32 := Scalar.extui v158
  let c0_i32_109 : BitVec 32 := 0#32
  let v160 : BitVec 1 := Scalar.cmpi .ne v159 c0_i32_109
  v160

def k0_off11 (d0 : Dev nD) : Fin 1 → Nat :=
  let c2_i32_106 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v154 : BitVec 32 := Scalar.muli c2_i32_106 v137
  let c0_i32_107 : BitVec 32 := 0#32
  let v155 : BitVec 32 := Scalar.addi v2 c0_i32_107
  let c2_i32_108 : BitVec 32 := 2#32
  let v156 : BitVec 32 := Scalar.remsi v155 c2_i32_108
  let v157 : BitVec 32 := Scalar.addi v154 v156
  ![v157.toNat]
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off14 (d0 : Dev nD) : Fin 3 → Nat :=
  let c2_i32_106 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v154 : BitVec 32 := Scalar.muli c2_i32_106 v137
  let c0_i32_107 : BitVec 32 := 0#32
  let v155 : BitVec 32 := Scalar.addi v2 c0_i32_107
  let c2_i32_108 : BitVec 32 := 2#32
  let v156 : BitVec 32 := Scalar.remsi v155 c2_i32_108
  let v157 : BitVec 32 := Scalar.addi v154 v156
  let c0_i32_791 : BitVec 32 := 0#32
  let c0_i32_792 : BitVec 32 := 0#32
  ![v157.toNat, 0, 0]
def k0_dev18 (d0 : Dev nD) : Nat :=
  let c0_i32_788 : BitVec 32 := 0#32
  let c2_i32_106 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v154 : BitVec 32 := Scalar.muli c2_i32_106 v137
  let c0_i32_107 : BitVec 32 := 0#32
  let v155 : BitVec 32 := Scalar.addi v2 c0_i32_107
  let c2_i32_108 : BitVec 32 := 2#32
  let v156 : BitVec 32 := Scalar.remsi v155 c2_i32_108
  let v157 : BitVec 32 := Scalar.addi v154 v156
  let c1_i32_787 : BitVec 32 := 1#32
  let v1185 : BitVec 32 := Scalar.muli v157 c1_i32_787
  let v1186 : BitVec 32 := Scalar.addi c0_i32_788 v1185
  v1186.toNat
def k0_cond4 (d0 : Dev nD) : BitVec 1 :=
  let c2_i32_110 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v161 : BitVec 32 := Scalar.muli c2_i32_110 v137
  let c1_i32_111 : BitVec 32 := 1#32
  let v162 : BitVec 32 := Scalar.addi v2 c1_i32_111
  let c2_i32_112 : BitVec 32 := 2#32
  let v163 : BitVec 32 := Scalar.remsi v162 c2_i32_112
  let v164 : BitVec 32 := Scalar.addi v161 v163
  let v165 : BitVec 1 := Scalar.cmpi .ne v164 v2
  let v166 : BitVec 32 := Scalar.extui v165
  let c0_i32_113 : BitVec 32 := 0#32
  let v167 : BitVec 1 := Scalar.cmpi .ne v166 c0_i32_113
  v167

def k0_off15 (d0 : Dev nD) : Fin 1 → Nat :=
  let c2_i32_110 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v161 : BitVec 32 := Scalar.muli c2_i32_110 v137
  let c1_i32_111 : BitVec 32 := 1#32
  let v162 : BitVec 32 := Scalar.addi v2 c1_i32_111
  let c2_i32_112 : BitVec 32 := 2#32
  let v163 : BitVec 32 := Scalar.remsi v162 c2_i32_112
  let v164 : BitVec 32 := Scalar.addi v161 v163
  ![v164.toNat]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off18 (d0 : Dev nD) : Fin 3 → Nat :=
  let c2_i32_110 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v161 : BitVec 32 := Scalar.muli c2_i32_110 v137
  let c1_i32_111 : BitVec 32 := 1#32
  let v162 : BitVec 32 := Scalar.addi v2 c1_i32_111
  let c2_i32_112 : BitVec 32 := 2#32
  let v163 : BitVec 32 := Scalar.remsi v162 c2_i32_112
  let v164 : BitVec 32 := Scalar.addi v161 v163
  let c0_i32_791 : BitVec 32 := 0#32
  let c0_i32_792 : BitVec 32 := 0#32
  ![v164.toNat, 0, 0]
def k0_dev19 (d0 : Dev nD) : Nat :=
  let c0_i32_788 : BitVec 32 := 0#32
  let c2_i32_110 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_89 : BitVec 32 := 0#32
  let v119 : BitVec 1 := Scalar.cmpi .sgt v2 c0_i32_89
  let v120 : BitVec 32 := Scalar.extui v119
  let c0_i32_90 : BitVec 32 := 0#32
  let v121 : BitVec 1 := Scalar.cmpi .slt v2 c0_i32_90
  let v122 : BitVec 32 := Scalar.extui v121
  let v123 : BitVec 32 := Scalar.subi v120 v122
  let c2_i32_88 : BitVec 32 := 2#32
  let c0_i32_91 : BitVec 32 := 0#32
  let v124 : BitVec 1 := Scalar.cmpi .sgt c2_i32_88 c0_i32_91
  let v125 : BitVec 32 := Scalar.extui v124
  let c0_i32_92 : BitVec 32 := 0#32
  let v126 : BitVec 1 := Scalar.cmpi .slt c2_i32_88 c0_i32_92
  let v127 : BitVec 32 := Scalar.extui v126
  let v128 : BitVec 32 := Scalar.subi v125 v127
  let v129 : BitVec 1 := Scalar.cmpi .ne v123 v128
  let v130 : BitVec 32 := Scalar.remsi v2 c2_i32_88
  let c0_i32_93 : BitVec 32 := 0#32
  let v131 : BitVec 1 := Scalar.cmpi .ne v130 c0_i32_93
  let v132 : BitVec 1 := Scalar.andi v129 v131
  let v118 : BitVec 32 := Scalar.divsi v2 c2_i32_88
  let c1_i32_94 : BitVec 32 := 1#32
  let v133 : BitVec 32 := Scalar.subi v118 c1_i32_94
  let v134 : BitVec 32 := Scalar.select v132 v133 v118
  let c1_i32_95 : BitVec 32 := 1#32
  let v135 : BitVec 32 := Scalar.addi v134 c1_i32_95
  let c1_i32_96 : BitVec 32 := 1#32
  let v136 : BitVec 32 := Scalar.addi v135 c1_i32_96
  let c8_i32_97 : BitVec 32 := 8#32
  let v137 : BitVec 32 := Scalar.remsi v136 c8_i32_97
  let v161 : BitVec 32 := Scalar.muli c2_i32_110 v137
  let c1_i32_111 : BitVec 32 := 1#32
  let v162 : BitVec 32 := Scalar.addi v2 c1_i32_111
  let c2_i32_112 : BitVec 32 := 2#32
  let v163 : BitVec 32 := Scalar.remsi v162 c2_i32_112
  let v164 : BitVec 32 := Scalar.addi v161 v163
  let c1_i32_787 : BitVec 32 := 1#32
  let v1185 : BitVec 32 := Scalar.muli v164 c1_i32_787
  let v1186 : BitVec 32 := Scalar.addi c0_i32_788 v1185
  v1186.toNat
def k0_cond5 (d0 : Dev nD) : BitVec 1 :=
  let c2_i32_132 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v204 : BitVec 32 := Scalar.muli c2_i32_132 v187
  let c0_i32_133 : BitVec 32 := 0#32
  let v205 : BitVec 32 := Scalar.addi v2 c0_i32_133
  let c2_i32_134 : BitVec 32 := 2#32
  let v206 : BitVec 32 := Scalar.remsi v205 c2_i32_134
  let v207 : BitVec 32 := Scalar.addi v204 v206
  let v208 : BitVec 1 := Scalar.cmpi .ne v207 v2
  let v209 : BitVec 32 := Scalar.extui v208
  let c0_i32_135 : BitVec 32 := 0#32
  let v210 : BitVec 1 := Scalar.cmpi .ne v209 c0_i32_135
  v210

def k0_off19 (d0 : Dev nD) : Fin 1 → Nat :=
  let c2_i32_132 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v204 : BitVec 32 := Scalar.muli c2_i32_132 v187
  let c0_i32_133 : BitVec 32 := 0#32
  let v205 : BitVec 32 := Scalar.addi v2 c0_i32_133
  let c2_i32_134 : BitVec 32 := 2#32
  let v206 : BitVec 32 := Scalar.remsi v205 c2_i32_134
  let v207 : BitVec 32 := Scalar.addi v204 v206
  ![v207.toNat]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off22 (d0 : Dev nD) : Fin 3 → Nat :=
  let c2_i32_132 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v204 : BitVec 32 := Scalar.muli c2_i32_132 v187
  let c0_i32_133 : BitVec 32 := 0#32
  let v205 : BitVec 32 := Scalar.addi v2 c0_i32_133
  let c2_i32_134 : BitVec 32 := 2#32
  let v206 : BitVec 32 := Scalar.remsi v205 c2_i32_134
  let v207 : BitVec 32 := Scalar.addi v204 v206
  let c0_i32_791 : BitVec 32 := 0#32
  let c0_i32_792 : BitVec 32 := 0#32
  ![v207.toNat, 0, 0]
def k0_dev20 (d0 : Dev nD) : Nat :=
  let c0_i32_788 : BitVec 32 := 0#32
  let c2_i32_132 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v204 : BitVec 32 := Scalar.muli c2_i32_132 v187
  let c0_i32_133 : BitVec 32 := 0#32
  let v205 : BitVec 32 := Scalar.addi v2 c0_i32_133
  let c2_i32_134 : BitVec 32 := 2#32
  let v206 : BitVec 32 := Scalar.remsi v205 c2_i32_134
  let v207 : BitVec 32 := Scalar.addi v204 v206
  let c1_i32_787 : BitVec 32 := 1#32
  let v1185 : BitVec 32 := Scalar.muli v207 c1_i32_787
  let v1186 : BitVec 32 := Scalar.addi c0_i32_788 v1185
  v1186.toNat
def k0_cond6 (d0 : Dev nD) : BitVec 1 :=
  let c2_i32_136 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v211 : BitVec 32 := Scalar.muli c2_i32_136 v187
  let c1_i32_137 : BitVec 32 := 1#32
  let v212 : BitVec 32 := Scalar.addi v2 c1_i32_137
  let c2_i32_138 : BitVec 32 := 2#32
  let v213 : BitVec 32 := Scalar.remsi v212 c2_i32_138
  let v214 : BitVec 32 := Scalar.addi v211 v213
  let v215 : BitVec 1 := Scalar.cmpi .ne v214 v2
  let v216 : BitVec 32 := Scalar.extui v215
  let c0_i32_139 : BitVec 32 := 0#32
  let v217 : BitVec 1 := Scalar.cmpi .ne v216 c0_i32_139
  v217

def k0_off23 (d0 : Dev nD) : Fin 1 → Nat :=
  let c2_i32_136 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v211 : BitVec 32 := Scalar.muli c2_i32_136 v187
  let c1_i32_137 : BitVec 32 := 1#32
  let v212 : BitVec 32 := Scalar.addi v2 c1_i32_137
  let c2_i32_138 : BitVec 32 := 2#32
  let v213 : BitVec 32 := Scalar.remsi v212 c2_i32_138
  let v214 : BitVec 32 := Scalar.addi v211 v213
  ![v214.toNat]
def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off26 (d0 : Dev nD) : Fin 3 → Nat :=
  let c2_i32_136 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v211 : BitVec 32 := Scalar.muli c2_i32_136 v187
  let c1_i32_137 : BitVec 32 := 1#32
  let v212 : BitVec 32 := Scalar.addi v2 c1_i32_137
  let c2_i32_138 : BitVec 32 := 2#32
  let v213 : BitVec 32 := Scalar.remsi v212 c2_i32_138
  let v214 : BitVec 32 := Scalar.addi v211 v213
  let c0_i32_791 : BitVec 32 := 0#32
  let c0_i32_792 : BitVec 32 := 0#32
  ![v214.toNat, 0, 0]
def k0_dev21 (d0 : Dev nD) : Nat :=
  let c0_i32_788 : BitVec 32 := 0#32
  let c2_i32_136 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_115 : BitVec 32 := 0#32
  let v169 : BitVec 1 := Scalar.cmpi .sgt v2 c0_i32_115
  let v170 : BitVec 32 := Scalar.extui v169
  let c0_i32_116 : BitVec 32 := 0#32
  let v171 : BitVec 1 := Scalar.cmpi .slt v2 c0_i32_116
  let v172 : BitVec 32 := Scalar.extui v171
  let v173 : BitVec 32 := Scalar.subi v170 v172
  let c2_i32_114 : BitVec 32 := 2#32
  let c0_i32_117 : BitVec 32 := 0#32
  let v174 : BitVec 1 := Scalar.cmpi .sgt c2_i32_114 c0_i32_117
  let v175 : BitVec 32 := Scalar.extui v174
  let c0_i32_118 : BitVec 32 := 0#32
  let v176 : BitVec 1 := Scalar.cmpi .slt c2_i32_114 c0_i32_118
  let v177 : BitVec 32 := Scalar.extui v176
  let v178 : BitVec 32 := Scalar.subi v175 v177
  let v179 : BitVec 1 := Scalar.cmpi .ne v173 v178
  let v180 : BitVec 32 := Scalar.remsi v2 c2_i32_114
  let c0_i32_119 : BitVec 32 := 0#32
  let v181 : BitVec 1 := Scalar.cmpi .ne v180 c0_i32_119
  let v182 : BitVec 1 := Scalar.andi v179 v181
  let v168 : BitVec 32 := Scalar.divsi v2 c2_i32_114
  let c1_i32_120 : BitVec 32 := 1#32
  let v183 : BitVec 32 := Scalar.subi v168 c1_i32_120
  let v184 : BitVec 32 := Scalar.select v182 v183 v168
  let c1_i32_121 : BitVec 32 := 1#32
  let v185 : BitVec 32 := Scalar.addi v184 c1_i32_121
  let c2_i32_122 : BitVec 32 := 2#32
  let v186 : BitVec 32 := Scalar.addi v185 c2_i32_122
  let c8_i32_123 : BitVec 32 := 8#32
  let v187 : BitVec 32 := Scalar.remsi v186 c8_i32_123
  let v211 : BitVec 32 := Scalar.muli c2_i32_136 v187
  let c1_i32_137 : BitVec 32 := 1#32
  let v212 : BitVec 32 := Scalar.addi v2 c1_i32_137
  let c2_i32_138 : BitVec 32 := 2#32
  let v213 : BitVec 32 := Scalar.remsi v212 c2_i32_138
  let v214 : BitVec 32 := Scalar.addi v211 v213
  let c1_i32_787 : BitVec 32 := 1#32
  let v1185 : BitVec 32 := Scalar.muli v214 c1_i32_787
  let v1186 : BitVec 32 := Scalar.addi c0_i32_788 v1185
  v1186.toNat
def k0_cond7 (d0 : Dev nD) : BitVec 1 :=
  let c2_i32_158 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v254 : BitVec 32 := Scalar.muli c2_i32_158 v237
  let c0_i32_159 : BitVec 32 := 0#32
  let v255 : BitVec 32 := Scalar.addi v2 c0_i32_159
  let c2_i32_160 : BitVec 32 := 2#32
  let v256 : BitVec 32 := Scalar.remsi v255 c2_i32_160
  let v257 : BitVec 32 := Scalar.addi v254 v256
  let v258 : BitVec 1 := Scalar.cmpi .ne v257 v2
  let v259 : BitVec 32 := Scalar.extui v258
  let c0_i32_161 : BitVec 32 := 0#32
  let v260 : BitVec 1 := Scalar.cmpi .ne v259 c0_i32_161
  v260

def k0_off27 (d0 : Dev nD) : Fin 1 → Nat :=
  let c2_i32_158 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v254 : BitVec 32 := Scalar.muli c2_i32_158 v237
  let c0_i32_159 : BitVec 32 := 0#32
  let v255 : BitVec 32 := Scalar.addi v2 c0_i32_159
  let c2_i32_160 : BitVec 32 := 2#32
  let v256 : BitVec 32 := Scalar.remsi v255 c2_i32_160
  let v257 : BitVec 32 := Scalar.addi v254 v256
  ![v257.toNat]
def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off30 (d0 : Dev nD) : Fin 3 → Nat :=
  let c2_i32_158 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v254 : BitVec 32 := Scalar.muli c2_i32_158 v237
  let c0_i32_159 : BitVec 32 := 0#32
  let v255 : BitVec 32 := Scalar.addi v2 c0_i32_159
  let c2_i32_160 : BitVec 32 := 2#32
  let v256 : BitVec 32 := Scalar.remsi v255 c2_i32_160
  let v257 : BitVec 32 := Scalar.addi v254 v256
  let c0_i32_791 : BitVec 32 := 0#32
  let c0_i32_792 : BitVec 32 := 0#32
  ![v257.toNat, 0, 0]
def k0_dev22 (d0 : Dev nD) : Nat :=
  let c0_i32_788 : BitVec 32 := 0#32
  let c2_i32_158 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v254 : BitVec 32 := Scalar.muli c2_i32_158 v237
  let c0_i32_159 : BitVec 32 := 0#32
  let v255 : BitVec 32 := Scalar.addi v2 c0_i32_159
  let c2_i32_160 : BitVec 32 := 2#32
  let v256 : BitVec 32 := Scalar.remsi v255 c2_i32_160
  let v257 : BitVec 32 := Scalar.addi v254 v256
  let c1_i32_787 : BitVec 32 := 1#32
  let v1185 : BitVec 32 := Scalar.muli v257 c1_i32_787
  let v1186 : BitVec 32 := Scalar.addi c0_i32_788 v1185
  v1186.toNat
def k0_cond8 (d0 : Dev nD) : BitVec 1 :=
  let c2_i32_162 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v261 : BitVec 32 := Scalar.muli c2_i32_162 v237
  let c1_i32_163 : BitVec 32 := 1#32
  let v262 : BitVec 32 := Scalar.addi v2 c1_i32_163
  let c2_i32_164 : BitVec 32 := 2#32
  let v263 : BitVec 32 := Scalar.remsi v262 c2_i32_164
  let v264 : BitVec 32 := Scalar.addi v261 v263
  let v265 : BitVec 1 := Scalar.cmpi .ne v264 v2
  let v266 : BitVec 32 := Scalar.extui v265
  let c0_i32_165 : BitVec 32 := 0#32
  let v267 : BitVec 1 := Scalar.cmpi .ne v266 c0_i32_165
  v267

def k0_off31 (d0 : Dev nD) : Fin 1 → Nat :=
  let c2_i32_162 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v261 : BitVec 32 := Scalar.muli c2_i32_162 v237
  let c1_i32_163 : BitVec 32 := 1#32
  let v262 : BitVec 32 := Scalar.addi v2 c1_i32_163
  let c2_i32_164 : BitVec 32 := 2#32
  let v263 : BitVec 32 := Scalar.remsi v262 c2_i32_164
  let v264 : BitVec 32 := Scalar.addi v261 v263
  ![v264.toNat]
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off34 (d0 : Dev nD) : Fin 3 → Nat :=
  let c2_i32_162 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v261 : BitVec 32 := Scalar.muli c2_i32_162 v237
  let c1_i32_163 : BitVec 32 := 1#32
  let v262 : BitVec 32 := Scalar.addi v2 c1_i32_163
  let c2_i32_164 : BitVec 32 := 2#32
  let v263 : BitVec 32 := Scalar.remsi v262 c2_i32_164
  let v264 : BitVec 32 := Scalar.addi v261 v263
  let c0_i32_791 : BitVec 32 := 0#32
  let c0_i32_792 : BitVec 32 := 0#32
  ![v264.toNat, 0, 0]
def k0_dev23 (d0 : Dev nD) : Nat :=
  let c0_i32_788 : BitVec 32 := 0#32
  let c2_i32_162 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_141 : BitVec 32 := 0#32
  let v219 : BitVec 1 := Scalar.cmpi .sgt v2 c0_i32_141
  let v220 : BitVec 32 := Scalar.extui v219
  let c0_i32_142 : BitVec 32 := 0#32
  let v221 : BitVec 1 := Scalar.cmpi .slt v2 c0_i32_142
  let v222 : BitVec 32 := Scalar.extui v221
  let v223 : BitVec 32 := Scalar.subi v220 v222
  let c2_i32_140 : BitVec 32 := 2#32
  let c0_i32_143 : BitVec 32 := 0#32
  let v224 : BitVec 1 := Scalar.cmpi .sgt c2_i32_140 c0_i32_143
  let v225 : BitVec 32 := Scalar.extui v224
  let c0_i32_144 : BitVec 32 := 0#32
  let v226 : BitVec 1 := Scalar.cmpi .slt c2_i32_140 c0_i32_144
  let v227 : BitVec 32 := Scalar.extui v226
  let v228 : BitVec 32 := Scalar.subi v225 v227
  let v229 : BitVec 1 := Scalar.cmpi .ne v223 v228
  let v230 : BitVec 32 := Scalar.remsi v2 c2_i32_140
  let c0_i32_145 : BitVec 32 := 0#32
  let v231 : BitVec 1 := Scalar.cmpi .ne v230 c0_i32_145
  let v232 : BitVec 1 := Scalar.andi v229 v231
  let v218 : BitVec 32 := Scalar.divsi v2 c2_i32_140
  let c1_i32_146 : BitVec 32 := 1#32
  let v233 : BitVec 32 := Scalar.subi v218 c1_i32_146
  let v234 : BitVec 32 := Scalar.select v232 v233 v218
  let c1_i32_147 : BitVec 32 := 1#32
  let v235 : BitVec 32 := Scalar.addi v234 c1_i32_147
  let c3_i32_148 : BitVec 32 := 3#32
  let v236 : BitVec 32 := Scalar.addi v235 c3_i32_148
  let c8_i32_149 : BitVec 32 := 8#32
  let v237 : BitVec 32 := Scalar.remsi v236 c8_i32_149
  let v261 : BitVec 32 := Scalar.muli c2_i32_162 v237
  let c1_i32_163 : BitVec 32 := 1#32
  let v262 : BitVec 32 := Scalar.addi v2 c1_i32_163
  let c2_i32_164 : BitVec 32 := 2#32
  let v263 : BitVec 32 := Scalar.remsi v262 c2_i32_164
  let v264 : BitVec 32 := Scalar.addi v261 v263
  let c1_i32_787 : BitVec 32 := 1#32
  let v1185 : BitVec 32 := Scalar.muli v264 c1_i32_787
  let v1186 : BitVec 32 := Scalar.addi c0_i32_788 v1185
  v1186.toNat
def k0_cond9 (d0 : Dev nD) : BitVec 1 :=
  let c2_i32_184 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v304 : BitVec 32 := Scalar.muli c2_i32_184 v287
  let c0_i32_185 : BitVec 32 := 0#32
  let v305 : BitVec 32 := Scalar.addi v2 c0_i32_185
  let c2_i32_186 : BitVec 32 := 2#32
  let v306 : BitVec 32 := Scalar.remsi v305 c2_i32_186
  let v307 : BitVec 32 := Scalar.addi v304 v306
  let v308 : BitVec 1 := Scalar.cmpi .ne v307 v2
  let v309 : BitVec 32 := Scalar.extui v308
  let c0_i32_187 : BitVec 32 := 0#32
  let v310 : BitVec 1 := Scalar.cmpi .ne v309 c0_i32_187
  v310

def k0_off35 (d0 : Dev nD) : Fin 1 → Nat :=
  let c2_i32_184 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v304 : BitVec 32 := Scalar.muli c2_i32_184 v287
  let c0_i32_185 : BitVec 32 := 0#32
  let v305 : BitVec 32 := Scalar.addi v2 c0_i32_185
  let c2_i32_186 : BitVec 32 := 2#32
  let v306 : BitVec 32 := Scalar.remsi v305 c2_i32_186
  let v307 : BitVec 32 := Scalar.addi v304 v306
  ![v307.toNat]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off38 (d0 : Dev nD) : Fin 3 → Nat :=
  let c2_i32_184 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v304 : BitVec 32 := Scalar.muli c2_i32_184 v287
  let c0_i32_185 : BitVec 32 := 0#32
  let v305 : BitVec 32 := Scalar.addi v2 c0_i32_185
  let c2_i32_186 : BitVec 32 := 2#32
  let v306 : BitVec 32 := Scalar.remsi v305 c2_i32_186
  let v307 : BitVec 32 := Scalar.addi v304 v306
  let c0_i32_791 : BitVec 32 := 0#32
  let c0_i32_792 : BitVec 32 := 0#32
  ![v307.toNat, 0, 0]
def k0_dev24 (d0 : Dev nD) : Nat :=
  let c0_i32_788 : BitVec 32 := 0#32
  let c2_i32_184 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v304 : BitVec 32 := Scalar.muli c2_i32_184 v287
  let c0_i32_185 : BitVec 32 := 0#32
  let v305 : BitVec 32 := Scalar.addi v2 c0_i32_185
  let c2_i32_186 : BitVec 32 := 2#32
  let v306 : BitVec 32 := Scalar.remsi v305 c2_i32_186
  let v307 : BitVec 32 := Scalar.addi v304 v306
  let c1_i32_787 : BitVec 32 := 1#32
  let v1185 : BitVec 32 := Scalar.muli v307 c1_i32_787
  let v1186 : BitVec 32 := Scalar.addi c0_i32_788 v1185
  v1186.toNat
def k0_cond10 (d0 : Dev nD) : BitVec 1 :=
  let c2_i32_188 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v311 : BitVec 32 := Scalar.muli c2_i32_188 v287
  let c1_i32_189 : BitVec 32 := 1#32
  let v312 : BitVec 32 := Scalar.addi v2 c1_i32_189
  let c2_i32_190 : BitVec 32 := 2#32
  let v313 : BitVec 32 := Scalar.remsi v312 c2_i32_190
  let v314 : BitVec 32 := Scalar.addi v311 v313
  let v315 : BitVec 1 := Scalar.cmpi .ne v314 v2
  let v316 : BitVec 32 := Scalar.extui v315
  let c0_i32_191 : BitVec 32 := 0#32
  let v317 : BitVec 1 := Scalar.cmpi .ne v316 c0_i32_191
  v317

def k0_off39 (d0 : Dev nD) : Fin 1 → Nat :=
  let c2_i32_188 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v311 : BitVec 32 := Scalar.muli c2_i32_188 v287
  let c1_i32_189 : BitVec 32 := 1#32
  let v312 : BitVec 32 := Scalar.addi v2 c1_i32_189
  let c2_i32_190 : BitVec 32 := 2#32
  let v313 : BitVec 32 := Scalar.remsi v312 c2_i32_190
  let v314 : BitVec 32 := Scalar.addi v311 v313
  ![v314.toNat]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off42 (d0 : Dev nD) : Fin 3 → Nat :=
  let c2_i32_188 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v311 : BitVec 32 := Scalar.muli c2_i32_188 v287
  let c1_i32_189 : BitVec 32 := 1#32
  let v312 : BitVec 32 := Scalar.addi v2 c1_i32_189
  let c2_i32_190 : BitVec 32 := 2#32
  let v313 : BitVec 32 := Scalar.remsi v312 c2_i32_190
  let v314 : BitVec 32 := Scalar.addi v311 v313
  let c0_i32_791 : BitVec 32 := 0#32
  let c0_i32_792 : BitVec 32 := 0#32
  ![v314.toNat, 0, 0]
def k0_dev25 (d0 : Dev nD) : Nat :=
  let c0_i32_788 : BitVec 32 := 0#32
  let c2_i32_188 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_167 : BitVec 32 := 0#32
  let v269 : BitVec 1 := Scalar.cmpi .sgt v2 c0_i32_167
  let v270 : BitVec 32 := Scalar.extui v269
  let c0_i32_168 : BitVec 32 := 0#32
  let v271 : BitVec 1 := Scalar.cmpi .slt v2 c0_i32_168
  let v272 : BitVec 32 := Scalar.extui v271
  let v273 : BitVec 32 := Scalar.subi v270 v272
  let c2_i32_166 : BitVec 32 := 2#32
  let c0_i32_169 : BitVec 32 := 0#32
  let v274 : BitVec 1 := Scalar.cmpi .sgt c2_i32_166 c0_i32_169
  let v275 : BitVec 32 := Scalar.extui v274
  let c0_i32_170 : BitVec 32 := 0#32
  let v276 : BitVec 1 := Scalar.cmpi .slt c2_i32_166 c0_i32_170
  let v277 : BitVec 32 := Scalar.extui v276
  let v278 : BitVec 32 := Scalar.subi v275 v277
  let v279 : BitVec 1 := Scalar.cmpi .ne v273 v278
  let v280 : BitVec 32 := Scalar.remsi v2 c2_i32_166
  let c0_i32_171 : BitVec 32 := 0#32
  let v281 : BitVec 1 := Scalar.cmpi .ne v280 c0_i32_171
  let v282 : BitVec 1 := Scalar.andi v279 v281
  let v268 : BitVec 32 := Scalar.divsi v2 c2_i32_166
  let c1_i32_172 : BitVec 32 := 1#32
  let v283 : BitVec 32 := Scalar.subi v268 c1_i32_172
  let v284 : BitVec 32 := Scalar.select v282 v283 v268
  let c1_i32_173 : BitVec 32 := 1#32
  let v285 : BitVec 32 := Scalar.addi v284 c1_i32_173
  let c4_i32_174 : BitVec 32 := 4#32
  let v286 : BitVec 32 := Scalar.addi v285 c4_i32_174
  let c8_i32_175 : BitVec 32 := 8#32
  let v287 : BitVec 32 := Scalar.remsi v286 c8_i32_175
  let v311 : BitVec 32 := Scalar.muli c2_i32_188 v287
  let c1_i32_189 : BitVec 32 := 1#32
  let v312 : BitVec 32 := Scalar.addi v2 c1_i32_189
  let c2_i32_190 : BitVec 32 := 2#32
  let v313 : BitVec 32 := Scalar.remsi v312 c2_i32_190
  let v314 : BitVec 32 := Scalar.addi v311 v313
  let c1_i32_787 : BitVec 32 := 1#32
  let v1185 : BitVec 32 := Scalar.muli v314 c1_i32_787
  let v1186 : BitVec 32 := Scalar.addi c0_i32_788 v1185
  v1186.toNat
def k0_cond11 (d0 : Dev nD) : BitVec 1 :=
  let c2_i32_210 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v354 : BitVec 32 := Scalar.muli c2_i32_210 v337
  let c0_i32_211 : BitVec 32 := 0#32
  let v355 : BitVec 32 := Scalar.addi v2 c0_i32_211
  let c2_i32_212 : BitVec 32 := 2#32
  let v356 : BitVec 32 := Scalar.remsi v355 c2_i32_212
  let v357 : BitVec 32 := Scalar.addi v354 v356
  let v358 : BitVec 1 := Scalar.cmpi .ne v357 v2
  let v359 : BitVec 32 := Scalar.extui v358
  let c0_i32_213 : BitVec 32 := 0#32
  let v360 : BitVec 1 := Scalar.cmpi .ne v359 c0_i32_213
  v360

def k0_off43 (d0 : Dev nD) : Fin 1 → Nat :=
  let c2_i32_210 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v354 : BitVec 32 := Scalar.muli c2_i32_210 v337
  let c0_i32_211 : BitVec 32 := 0#32
  let v355 : BitVec 32 := Scalar.addi v2 c0_i32_211
  let c2_i32_212 : BitVec 32 := 2#32
  let v356 : BitVec 32 := Scalar.remsi v355 c2_i32_212
  let v357 : BitVec 32 := Scalar.addi v354 v356
  ![v357.toNat]
def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off46 (d0 : Dev nD) : Fin 3 → Nat :=
  let c2_i32_210 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v354 : BitVec 32 := Scalar.muli c2_i32_210 v337
  let c0_i32_211 : BitVec 32 := 0#32
  let v355 : BitVec 32 := Scalar.addi v2 c0_i32_211
  let c2_i32_212 : BitVec 32 := 2#32
  let v356 : BitVec 32 := Scalar.remsi v355 c2_i32_212
  let v357 : BitVec 32 := Scalar.addi v354 v356
  let c0_i32_791 : BitVec 32 := 0#32
  let c0_i32_792 : BitVec 32 := 0#32
  ![v357.toNat, 0, 0]
def k0_dev26 (d0 : Dev nD) : Nat :=
  let c0_i32_788 : BitVec 32 := 0#32
  let c2_i32_210 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v354 : BitVec 32 := Scalar.muli c2_i32_210 v337
  let c0_i32_211 : BitVec 32 := 0#32
  let v355 : BitVec 32 := Scalar.addi v2 c0_i32_211
  let c2_i32_212 : BitVec 32 := 2#32
  let v356 : BitVec 32 := Scalar.remsi v355 c2_i32_212
  let v357 : BitVec 32 := Scalar.addi v354 v356
  let c1_i32_787 : BitVec 32 := 1#32
  let v1185 : BitVec 32 := Scalar.muli v357 c1_i32_787
  let v1186 : BitVec 32 := Scalar.addi c0_i32_788 v1185
  v1186.toNat
def k0_cond12 (d0 : Dev nD) : BitVec 1 :=
  let c2_i32_214 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v361 : BitVec 32 := Scalar.muli c2_i32_214 v337
  let c1_i32_215 : BitVec 32 := 1#32
  let v362 : BitVec 32 := Scalar.addi v2 c1_i32_215
  let c2_i32_216 : BitVec 32 := 2#32
  let v363 : BitVec 32 := Scalar.remsi v362 c2_i32_216
  let v364 : BitVec 32 := Scalar.addi v361 v363
  let v365 : BitVec 1 := Scalar.cmpi .ne v364 v2
  let v366 : BitVec 32 := Scalar.extui v365
  let c0_i32_217 : BitVec 32 := 0#32
  let v367 : BitVec 1 := Scalar.cmpi .ne v366 c0_i32_217
  v367

def k0_off47 (d0 : Dev nD) : Fin 1 → Nat :=
  let c2_i32_214 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v361 : BitVec 32 := Scalar.muli c2_i32_214 v337
  let c1_i32_215 : BitVec 32 := 1#32
  let v362 : BitVec 32 := Scalar.addi v2 c1_i32_215
  let c2_i32_216 : BitVec 32 := 2#32
  let v363 : BitVec 32 := Scalar.remsi v362 c2_i32_216
  let v364 : BitVec 32 := Scalar.addi v361 v363
  ![v364.toNat]
def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off50 (d0 : Dev nD) : Fin 3 → Nat :=
  let c2_i32_214 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v361 : BitVec 32 := Scalar.muli c2_i32_214 v337
  let c1_i32_215 : BitVec 32 := 1#32
  let v362 : BitVec 32 := Scalar.addi v2 c1_i32_215
  let c2_i32_216 : BitVec 32 := 2#32
  let v363 : BitVec 32 := Scalar.remsi v362 c2_i32_216
  let v364 : BitVec 32 := Scalar.addi v361 v363
  let c0_i32_791 : BitVec 32 := 0#32
  let c0_i32_792 : BitVec 32 := 0#32
  ![v364.toNat, 0, 0]
def k0_dev27 (d0 : Dev nD) : Nat :=
  let c0_i32_788 : BitVec 32 := 0#32
  let c2_i32_214 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_193 : BitVec 32 := 0#32
  let v319 : BitVec 1 := Scalar.cmpi .sgt v2 c0_i32_193
  let v320 : BitVec 32 := Scalar.extui v319
  let c0_i32_194 : BitVec 32 := 0#32
  let v321 : BitVec 1 := Scalar.cmpi .slt v2 c0_i32_194
  let v322 : BitVec 32 := Scalar.extui v321
  let v323 : BitVec 32 := Scalar.subi v320 v322
  let c2_i32_192 : BitVec 32 := 2#32
  let c0_i32_195 : BitVec 32 := 0#32
  let v324 : BitVec 1 := Scalar.cmpi .sgt c2_i32_192 c0_i32_195
  let v325 : BitVec 32 := Scalar.extui v324
  let c0_i32_196 : BitVec 32 := 0#32
  let v326 : BitVec 1 := Scalar.cmpi .slt c2_i32_192 c0_i32_196
  let v327 : BitVec 32 := Scalar.extui v326
  let v328 : BitVec 32 := Scalar.subi v325 v327
  let v329 : BitVec 1 := Scalar.cmpi .ne v323 v328
  let v330 : BitVec 32 := Scalar.remsi v2 c2_i32_192
  let c0_i32_197 : BitVec 32 := 0#32
  let v331 : BitVec 1 := Scalar.cmpi .ne v330 c0_i32_197
  let v332 : BitVec 1 := Scalar.andi v329 v331
  let v318 : BitVec 32 := Scalar.divsi v2 c2_i32_192
  let c1_i32_198 : BitVec 32 := 1#32
  let v333 : BitVec 32 := Scalar.subi v318 c1_i32_198
  let v334 : BitVec 32 := Scalar.select v332 v333 v318
  let c1_i32_199 : BitVec 32 := 1#32
  let v335 : BitVec 32 := Scalar.addi v334 c1_i32_199
  let c5_i32_200 : BitVec 32 := 5#32
  let v336 : BitVec 32 := Scalar.addi v335 c5_i32_200
  let c8_i32_201 : BitVec 32 := 8#32
  let v337 : BitVec 32 := Scalar.remsi v336 c8_i32_201
  let v361 : BitVec 32 := Scalar.muli c2_i32_214 v337
  let c1_i32_215 : BitVec 32 := 1#32
  let v362 : BitVec 32 := Scalar.addi v2 c1_i32_215
  let c2_i32_216 : BitVec 32 := 2#32
  let v363 : BitVec 32 := Scalar.remsi v362 c2_i32_216
  let v364 : BitVec 32 := Scalar.addi v361 v363
  let c1_i32_787 : BitVec 32 := 1#32
  let v1185 : BitVec 32 := Scalar.muli v364 c1_i32_787
  let v1186 : BitVec 32 := Scalar.addi c0_i32_788 v1185
  v1186.toNat
def k0_cond13 (d0 : Dev nD) : BitVec 1 :=
  let c2_i32_236 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v404 : BitVec 32 := Scalar.muli c2_i32_236 v387
  let c0_i32_237 : BitVec 32 := 0#32
  let v405 : BitVec 32 := Scalar.addi v2 c0_i32_237
  let c2_i32_238 : BitVec 32 := 2#32
  let v406 : BitVec 32 := Scalar.remsi v405 c2_i32_238
  let v407 : BitVec 32 := Scalar.addi v404 v406
  let v408 : BitVec 1 := Scalar.cmpi .ne v407 v2
  let v409 : BitVec 32 := Scalar.extui v408
  let c0_i32_239 : BitVec 32 := 0#32
  let v410 : BitVec 1 := Scalar.cmpi .ne v409 c0_i32_239
  v410

def k0_off51 (d0 : Dev nD) : Fin 1 → Nat :=
  let c2_i32_236 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v404 : BitVec 32 := Scalar.muli c2_i32_236 v387
  let c0_i32_237 : BitVec 32 := 0#32
  let v405 : BitVec 32 := Scalar.addi v2 c0_i32_237
  let c2_i32_238 : BitVec 32 := 2#32
  let v406 : BitVec 32 := Scalar.remsi v405 c2_i32_238
  let v407 : BitVec 32 := Scalar.addi v404 v406
  ![v407.toNat]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off54 (d0 : Dev nD) : Fin 3 → Nat :=
  let c2_i32_236 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v404 : BitVec 32 := Scalar.muli c2_i32_236 v387
  let c0_i32_237 : BitVec 32 := 0#32
  let v405 : BitVec 32 := Scalar.addi v2 c0_i32_237
  let c2_i32_238 : BitVec 32 := 2#32
  let v406 : BitVec 32 := Scalar.remsi v405 c2_i32_238
  let v407 : BitVec 32 := Scalar.addi v404 v406
  let c0_i32_791 : BitVec 32 := 0#32
  let c0_i32_792 : BitVec 32 := 0#32
  ![v407.toNat, 0, 0]
def k0_dev28 (d0 : Dev nD) : Nat :=
  let c0_i32_788 : BitVec 32 := 0#32
  let c2_i32_236 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v404 : BitVec 32 := Scalar.muli c2_i32_236 v387
  let c0_i32_237 : BitVec 32 := 0#32
  let v405 : BitVec 32 := Scalar.addi v2 c0_i32_237
  let c2_i32_238 : BitVec 32 := 2#32
  let v406 : BitVec 32 := Scalar.remsi v405 c2_i32_238
  let v407 : BitVec 32 := Scalar.addi v404 v406
  let c1_i32_787 : BitVec 32 := 1#32
  let v1185 : BitVec 32 := Scalar.muli v407 c1_i32_787
  let v1186 : BitVec 32 := Scalar.addi c0_i32_788 v1185
  v1186.toNat
def k0_cond14 (d0 : Dev nD) : BitVec 1 :=
  let c2_i32_240 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v411 : BitVec 32 := Scalar.muli c2_i32_240 v387
  let c1_i32_241 : BitVec 32 := 1#32
  let v412 : BitVec 32 := Scalar.addi v2 c1_i32_241
  let c2_i32_242 : BitVec 32 := 2#32
  let v413 : BitVec 32 := Scalar.remsi v412 c2_i32_242
  let v414 : BitVec 32 := Scalar.addi v411 v413
  let v415 : BitVec 1 := Scalar.cmpi .ne v414 v2
  let v416 : BitVec 32 := Scalar.extui v415
  let c0_i32_243 : BitVec 32 := 0#32
  let v417 : BitVec 1 := Scalar.cmpi .ne v416 c0_i32_243
  v417

def k0_off55 (d0 : Dev nD) : Fin 1 → Nat :=
  let c2_i32_240 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v411 : BitVec 32 := Scalar.muli c2_i32_240 v387
  let c1_i32_241 : BitVec 32 := 1#32
  let v412 : BitVec 32 := Scalar.addi v2 c1_i32_241
  let c2_i32_242 : BitVec 32 := 2#32
  let v413 : BitVec 32 := Scalar.remsi v412 c2_i32_242
  let v414 : BitVec 32 := Scalar.addi v411 v413
  ![v414.toNat]
def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off58 (d0 : Dev nD) : Fin 3 → Nat :=
  let c2_i32_240 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v411 : BitVec 32 := Scalar.muli c2_i32_240 v387
  let c1_i32_241 : BitVec 32 := 1#32
  let v412 : BitVec 32 := Scalar.addi v2 c1_i32_241
  let c2_i32_242 : BitVec 32 := 2#32
  let v413 : BitVec 32 := Scalar.remsi v412 c2_i32_242
  let v414 : BitVec 32 := Scalar.addi v411 v413
  let c0_i32_791 : BitVec 32 := 0#32
  let c0_i32_792 : BitVec 32 := 0#32
  ![v414.toNat, 0, 0]
def k0_dev29 (d0 : Dev nD) : Nat :=
  let c0_i32_788 : BitVec 32 := 0#32
  let c2_i32_240 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  let v369 : BitVec 1 := Scalar.cmpi .sgt v2 c0_i32_219
  let v370 : BitVec 32 := Scalar.extui v369
  let c0_i32_220 : BitVec 32 := 0#32
  let v371 : BitVec 1 := Scalar.cmpi .slt v2 c0_i32_220
  let v372 : BitVec 32 := Scalar.extui v371
  let v373 : BitVec 32 := Scalar.subi v370 v372
  let c2_i32_218 : BitVec 32 := 2#32
  let c0_i32_221 : BitVec 32 := 0#32
  let v374 : BitVec 1 := Scalar.cmpi .sgt c2_i32_218 c0_i32_221
  let v375 : BitVec 32 := Scalar.extui v374
  let c0_i32_222 : BitVec 32 := 0#32
  let v376 : BitVec 1 := Scalar.cmpi .slt c2_i32_218 c0_i32_222
  let v377 : BitVec 32 := Scalar.extui v376
  let v378 : BitVec 32 := Scalar.subi v375 v377
  let v379 : BitVec 1 := Scalar.cmpi .ne v373 v378
  let v380 : BitVec 32 := Scalar.remsi v2 c2_i32_218
  let c0_i32_223 : BitVec 32 := 0#32
  let v381 : BitVec 1 := Scalar.cmpi .ne v380 c0_i32_223
  let v382 : BitVec 1 := Scalar.andi v379 v381
  let v368 : BitVec 32 := Scalar.divsi v2 c2_i32_218
  let c1_i32_224 : BitVec 32 := 1#32
  let v383 : BitVec 32 := Scalar.subi v368 c1_i32_224
  let v384 : BitVec 32 := Scalar.select v382 v383 v368
  let c1_i32_225 : BitVec 32 := 1#32
  let v385 : BitVec 32 := Scalar.addi v384 c1_i32_225
  let c6_i32_226 : BitVec 32 := 6#32
  let v386 : BitVec 32 := Scalar.addi v385 c6_i32_226
  let c8_i32_227 : BitVec 32 := 8#32
  let v387 : BitVec 32 := Scalar.remsi v386 c8_i32_227
  let v411 : BitVec 32 := Scalar.muli c2_i32_240 v387
  let c1_i32_241 : BitVec 32 := 1#32
  let v412 : BitVec 32 := Scalar.addi v2 c1_i32_241
  let c2_i32_242 : BitVec 32 := 2#32
  let v413 : BitVec 32 := Scalar.remsi v412 c2_i32_242
  let v414 : BitVec 32 := Scalar.addi v411 v413
  let c1_i32_787 : BitVec 32 := 1#32
  let v1185 : BitVec 32 := Scalar.muli v414 c1_i32_787
  let v1186 : BitVec 32 := Scalar.addi c0_i32_788 v1185
  v1186.toNat
def k0_cond15 (d0 : Dev nD) : BitVec 1 :=
  let c2_i32_262 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v454 : BitVec 32 := Scalar.muli c2_i32_262 v437
  let c0_i32_263 : BitVec 32 := 0#32
  let v455 : BitVec 32 := Scalar.addi v2 c0_i32_263
  let c2_i32_264 : BitVec 32 := 2#32
  let v456 : BitVec 32 := Scalar.remsi v455 c2_i32_264
  let v457 : BitVec 32 := Scalar.addi v454 v456
  let v458 : BitVec 1 := Scalar.cmpi .ne v457 v2
  let v459 : BitVec 32 := Scalar.extui v458
  let c0_i32_265 : BitVec 32 := 0#32
  let v460 : BitVec 1 := Scalar.cmpi .ne v459 c0_i32_265
  v460

def k0_off59 (d0 : Dev nD) : Fin 1 → Nat :=
  let c2_i32_262 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v454 : BitVec 32 := Scalar.muli c2_i32_262 v437
  let c0_i32_263 : BitVec 32 := 0#32
  let v455 : BitVec 32 := Scalar.addi v2 c0_i32_263
  let c2_i32_264 : BitVec 32 := 2#32
  let v456 : BitVec 32 := Scalar.remsi v455 c2_i32_264
  let v457 : BitVec 32 := Scalar.addi v454 v456
  ![v457.toNat]
def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off62 (d0 : Dev nD) : Fin 3 → Nat :=
  let c2_i32_262 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v454 : BitVec 32 := Scalar.muli c2_i32_262 v437
  let c0_i32_263 : BitVec 32 := 0#32
  let v455 : BitVec 32 := Scalar.addi v2 c0_i32_263
  let c2_i32_264 : BitVec 32 := 2#32
  let v456 : BitVec 32 := Scalar.remsi v455 c2_i32_264
  let v457 : BitVec 32 := Scalar.addi v454 v456
  let c0_i32_791 : BitVec 32 := 0#32
  let c0_i32_792 : BitVec 32 := 0#32
  ![v457.toNat, 0, 0]
def k0_dev30 (d0 : Dev nD) : Nat :=
  let c0_i32_788 : BitVec 32 := 0#32
  let c2_i32_262 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v454 : BitVec 32 := Scalar.muli c2_i32_262 v437
  let c0_i32_263 : BitVec 32 := 0#32
  let v455 : BitVec 32 := Scalar.addi v2 c0_i32_263
  let c2_i32_264 : BitVec 32 := 2#32
  let v456 : BitVec 32 := Scalar.remsi v455 c2_i32_264
  let v457 : BitVec 32 := Scalar.addi v454 v456
  let c1_i32_787 : BitVec 32 := 1#32
  let v1185 : BitVec 32 := Scalar.muli v457 c1_i32_787
  let v1186 : BitVec 32 := Scalar.addi c0_i32_788 v1185
  v1186.toNat
def k0_cond16 (d0 : Dev nD) : BitVec 1 :=
  let c2_i32_266 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v461 : BitVec 32 := Scalar.muli c2_i32_266 v437
  let c1_i32_267 : BitVec 32 := 1#32
  let v462 : BitVec 32 := Scalar.addi v2 c1_i32_267
  let c2_i32_268 : BitVec 32 := 2#32
  let v463 : BitVec 32 := Scalar.remsi v462 c2_i32_268
  let v464 : BitVec 32 := Scalar.addi v461 v463
  let v465 : BitVec 1 := Scalar.cmpi .ne v464 v2
  let v466 : BitVec 32 := Scalar.extui v465
  let c0_i32_269 : BitVec 32 := 0#32
  let v467 : BitVec 1 := Scalar.cmpi .ne v466 c0_i32_269
  v467

def k0_off63 (d0 : Dev nD) : Fin 1 → Nat :=
  let c2_i32_266 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v461 : BitVec 32 := Scalar.muli c2_i32_266 v437
  let c1_i32_267 : BitVec 32 := 1#32
  let v462 : BitVec 32 := Scalar.addi v2 c1_i32_267
  let c2_i32_268 : BitVec 32 := 2#32
  let v463 : BitVec 32 := Scalar.remsi v462 c2_i32_268
  let v464 : BitVec 32 := Scalar.addi v461 v463
  ![v464.toNat]
def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_789 : BitVec 32 := 0#32
  let c0_i32_790 : BitVec 32 := 0#32
  ![v2.toNat, 0, 0]
def k0_off66 (d0 : Dev nD) : Fin 3 → Nat :=
  let c2_i32_266 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v461 : BitVec 32 := Scalar.muli c2_i32_266 v437
  let c1_i32_267 : BitVec 32 := 1#32
  let v462 : BitVec 32 := Scalar.addi v2 c1_i32_267
  let c2_i32_268 : BitVec 32 := 2#32
  let v463 : BitVec 32 := Scalar.remsi v462 c2_i32_268
  let v464 : BitVec 32 := Scalar.addi v461 v463
  let c0_i32_791 : BitVec 32 := 0#32
  let c0_i32_792 : BitVec 32 := 0#32
  ![v464.toNat, 0, 0]
def k0_dev31 (d0 : Dev nD) : Nat :=
  let c0_i32_788 : BitVec 32 := 0#32
  let c2_i32_266 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_245 : BitVec 32 := 0#32
  let v419 : BitVec 1 := Scalar.cmpi .sgt v2 c0_i32_245
  let v420 : BitVec 32 := Scalar.extui v419
  let c0_i32_246 : BitVec 32 := 0#32
  let v421 : BitVec 1 := Scalar.cmpi .slt v2 c0_i32_246
  let v422 : BitVec 32 := Scalar.extui v421
  let v423 : BitVec 32 := Scalar.subi v420 v422
  let c2_i32_244 : BitVec 32 := 2#32
  let c0_i32_247 : BitVec 32 := 0#32
  let v424 : BitVec 1 := Scalar.cmpi .sgt c2_i32_244 c0_i32_247
  let v425 : BitVec 32 := Scalar.extui v424
  let c0_i32_248 : BitVec 32 := 0#32
  let v426 : BitVec 1 := Scalar.cmpi .slt c2_i32_244 c0_i32_248
  let v427 : BitVec 32 := Scalar.extui v426
  let v428 : BitVec 32 := Scalar.subi v425 v427
  let v429 : BitVec 1 := Scalar.cmpi .ne v423 v428
  let v430 : BitVec 32 := Scalar.remsi v2 c2_i32_244
  let c0_i32_249 : BitVec 32 := 0#32
  let v431 : BitVec 1 := Scalar.cmpi .ne v430 c0_i32_249
  let v432 : BitVec 1 := Scalar.andi v429 v431
  let v418 : BitVec 32 := Scalar.divsi v2 c2_i32_244
  let c1_i32_250 : BitVec 32 := 1#32
  let v433 : BitVec 32 := Scalar.subi v418 c1_i32_250
  let v434 : BitVec 32 := Scalar.select v432 v433 v418
  let c1_i32_251 : BitVec 32 := 1#32
  let v435 : BitVec 32 := Scalar.addi v434 c1_i32_251
  let c7_i32_252 : BitVec 32 := 7#32
  let v436 : BitVec 32 := Scalar.addi v435 c7_i32_252
  let c8_i32_253 : BitVec 32 := 8#32
  let v437 : BitVec 32 := Scalar.remsi v436 c8_i32_253
  let v461 : BitVec 32 := Scalar.muli c2_i32_266 v437
  let c1_i32_267 : BitVec 32 := 1#32
  let v462 : BitVec 32 := Scalar.addi v2 c1_i32_267
  let c2_i32_268 : BitVec 32 := 2#32
  let v463 : BitVec 32 := Scalar.remsi v462 c2_i32_268
  let v464 : BitVec 32 := Scalar.addi v461 v463
  let c1_i32_787 : BitVec 32 := 1#32
  let v1185 : BitVec 32 := Scalar.muli v464 c1_i32_787
  let v1186 : BitVec 32 := Scalar.addi c0_i32_788 v1185
  v1186.toNat
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v468 : Index := Scalar.indexCast v2
  let c0_270 : Index := 0#32
  let c0_271 : Index := 0#32
  ![v468.toNat, 0, 0]
def k0_off68 (d0 : Dev nD) (c1_i32_272 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : BitVec 32 := Scalar.addi v2 c1_i32_272
  let c16_i32_273 : BitVec 32 := 16#32
  let v473 : BitVec 32 := Scalar.remsi v472 c16_i32_273
  ![v473.toNat]
def k0_off69 (d0 : Dev nD) (c1_i32_272 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : BitVec 32 := Scalar.addi v2 c1_i32_272
  let c16_i32_273 : BitVec 32 := 16#32
  let v473 : BitVec 32 := Scalar.remsi v472 c16_i32_273
  let c0_i32_276 : BitVec 32 := 0#32
  let c0_i32_277 : BitVec 32 := 0#32
  ![v473.toNat, 0, 0]
def k0_off70 (d0 : Dev nD) (c1_i32_272 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : BitVec 32 := Scalar.addi v2 c1_i32_272
  let c16_i32_273 : BitVec 32 := 16#32
  let v473 : BitVec 32 := Scalar.remsi v472 c16_i32_273
  let v482 : Index := Scalar.indexCast v473
  let c0_280 : Index := 0#32
  let c0_281 : Index := 0#32
  ![v482.toNat, 0, 0]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_429 : BitVec 32 := 0#32
  let c0_i32_430 : BitVec 32 := 0#32
  ![v2.toNat, 0, 0]
def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v823 : BitVec 32 := Scalar.muli v2 c64_i32
  let c0_i32_533 : BitVec 32 := 0#32
  ![v823.toNat, 0]
def k0_dev32 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_529 : BitVec 32 := 1#32
  let v821 : BitVec 32 := Scalar.addi v2 c1_i32_529
  let c16_i32_530 : BitVec 32 := 16#32
  let v822 : BitVec 32 := Scalar.remsi v821 c16_i32_530
  let c1_i32_531 : BitVec 32 := 1#32
  let v824 : BitVec 32 := Scalar.muli v822 c1_i32_531
  let v825 : BitVec 32 := Scalar.addi c0_i32_532 v824
  v825.toNat
def k0_dev33 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_534 : BitVec 32 := 2#32
  let v831 : BitVec 32 := Scalar.addi v2 c2_i32_534
  let c16_i32_535 : BitVec 32 := 16#32
  let v832 : BitVec 32 := Scalar.remsi v831 c16_i32_535
  let c1_i32_537 : BitVec 32 := 1#32
  let v834 : BitVec 32 := Scalar.muli v832 c1_i32_537
  let v835 : BitVec 32 := Scalar.addi c0_i32_538 v834
  v835.toNat
def k0_dev34 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_540 : BitVec 32 := 3#32
  let v841 : BitVec 32 := Scalar.addi v2 c3_i32_540
  let c16_i32_541 : BitVec 32 := 16#32
  let v842 : BitVec 32 := Scalar.remsi v841 c16_i32_541
  let c1_i32_543 : BitVec 32 := 1#32
  let v844 : BitVec 32 := Scalar.muli v842 c1_i32_543
  let v845 : BitVec 32 := Scalar.addi c0_i32_544 v844
  v845.toNat
def k0_dev35 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_546 : BitVec 32 := 4#32
  let v851 : BitVec 32 := Scalar.addi v2 c4_i32_546
  let c16_i32_547 : BitVec 32 := 16#32
  let v852 : BitVec 32 := Scalar.remsi v851 c16_i32_547
  let c1_i32_549 : BitVec 32 := 1#32
  let v854 : BitVec 32 := Scalar.muli v852 c1_i32_549
  let v855 : BitVec 32 := Scalar.addi c0_i32_550 v854
  v855.toNat
def k0_dev36 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_552 : BitVec 32 := 5#32
  let v861 : BitVec 32 := Scalar.addi v2 c5_i32_552
  let c16_i32_553 : BitVec 32 := 16#32
  let v862 : BitVec 32 := Scalar.remsi v861 c16_i32_553
  let c1_i32_555 : BitVec 32 := 1#32
  let v864 : BitVec 32 := Scalar.muli v862 c1_i32_555
  let v865 : BitVec 32 := Scalar.addi c0_i32_556 v864
  v865.toNat
def k0_dev37 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_558 : BitVec 32 := 6#32
  let v871 : BitVec 32 := Scalar.addi v2 c6_i32_558
  let c16_i32_559 : BitVec 32 := 16#32
  let v872 : BitVec 32 := Scalar.remsi v871 c16_i32_559
  let c1_i32_561 : BitVec 32 := 1#32
  let v874 : BitVec 32 := Scalar.muli v872 c1_i32_561
  let v875 : BitVec 32 := Scalar.addi c0_i32_562 v874
  v875.toNat
def k0_dev38 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_564 : BitVec 32 := 7#32
  let v881 : BitVec 32 := Scalar.addi v2 c7_i32_564
  let c16_i32_565 : BitVec 32 := 16#32
  let v882 : BitVec 32 := Scalar.remsi v881 c16_i32_565
  let c1_i32_567 : BitVec 32 := 1#32
  let v884 : BitVec 32 := Scalar.muli v882 c1_i32_567
  let v885 : BitVec 32 := Scalar.addi c0_i32_568 v884
  v885.toNat
def k0_dev39 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_570 : BitVec 32 := 8#32
  let v891 : BitVec 32 := Scalar.addi v2 c8_i32_570
  let c16_i32_571 : BitVec 32 := 16#32
  let v892 : BitVec 32 := Scalar.remsi v891 c16_i32_571
  let c1_i32_573 : BitVec 32 := 1#32
  let v894 : BitVec 32 := Scalar.muli v892 c1_i32_573
  let v895 : BitVec 32 := Scalar.addi c0_i32_574 v894
  v895.toNat
def k0_dev40 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_576 : BitVec 32 := 9#32
  let v901 : BitVec 32 := Scalar.addi v2 c9_i32_576
  let c16_i32_577 : BitVec 32 := 16#32
  let v902 : BitVec 32 := Scalar.remsi v901 c16_i32_577
  let c1_i32_579 : BitVec 32 := 1#32
  let v904 : BitVec 32 := Scalar.muli v902 c1_i32_579
  let v905 : BitVec 32 := Scalar.addi c0_i32_580 v904
  v905.toNat
def k0_dev41 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_582 : BitVec 32 := 10#32
  let v911 : BitVec 32 := Scalar.addi v2 c10_i32_582
  let c16_i32_583 : BitVec 32 := 16#32
  let v912 : BitVec 32 := Scalar.remsi v911 c16_i32_583
  let c1_i32_585 : BitVec 32 := 1#32
  let v914 : BitVec 32 := Scalar.muli v912 c1_i32_585
  let v915 : BitVec 32 := Scalar.addi c0_i32_586 v914
  v915.toNat
def k0_dev42 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_588 : BitVec 32 := 11#32
  let v921 : BitVec 32 := Scalar.addi v2 c11_i32_588
  let c16_i32_589 : BitVec 32 := 16#32
  let v922 : BitVec 32 := Scalar.remsi v921 c16_i32_589
  let c1_i32_591 : BitVec 32 := 1#32
  let v924 : BitVec 32 := Scalar.muli v922 c1_i32_591
  let v925 : BitVec 32 := Scalar.addi c0_i32_592 v924
  v925.toNat
def k0_dev43 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_594 : BitVec 32 := 12#32
  let v931 : BitVec 32 := Scalar.addi v2 c12_i32_594
  let c16_i32_595 : BitVec 32 := 16#32
  let v932 : BitVec 32 := Scalar.remsi v931 c16_i32_595
  let c1_i32_597 : BitVec 32 := 1#32
  let v934 : BitVec 32 := Scalar.muli v932 c1_i32_597
  let v935 : BitVec 32 := Scalar.addi c0_i32_598 v934
  v935.toNat
def k0_dev44 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_600 : BitVec 32 := 13#32
  let v941 : BitVec 32 := Scalar.addi v2 c13_i32_600
  let c16_i32_601 : BitVec 32 := 16#32
  let v942 : BitVec 32 := Scalar.remsi v941 c16_i32_601
  let c1_i32_603 : BitVec 32 := 1#32
  let v944 : BitVec 32 := Scalar.muli v942 c1_i32_603
  let v945 : BitVec 32 := Scalar.addi c0_i32_604 v944
  v945.toNat
def k0_dev45 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_606 : BitVec 32 := 14#32
  let v951 : BitVec 32 := Scalar.addi v2 c14_i32_606
  let c16_i32_607 : BitVec 32 := 16#32
  let v952 : BitVec 32 := Scalar.remsi v951 c16_i32_607
  let c1_i32_609 : BitVec 32 := 1#32
  let v954 : BitVec 32 := Scalar.muli v952 c1_i32_609
  let v955 : BitVec 32 := Scalar.addi c0_i32_610 v954
  v955.toNat
def k0_dev46 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_612 : BitVec 32 := 15#32
  let v961 : BitVec 32 := Scalar.addi v2 c15_i32_612
  let c16_i32_613 : BitVec 32 := 16#32
  let v962 : BitVec 32 := Scalar.remsi v961 c16_i32_613
  let c1_i32_615 : BitVec 32 := 1#32
  let v964 : BitVec 32 := Scalar.muli v962 c1_i32_615
  let v965 : BitVec 32 := Scalar.addi c0_i32_616 v964
  v965.toNat
def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_620 : BitVec 32 := 64#32
  let v972 : BitVec 32 := Scalar.muli v2 c64_i32_620
  let v973 : Index := Scalar.indexCast v972
  let c0_621 : Index := 0#32
  ![v973.toNat, 0]
def k0_off75 (d0 : Dev nD) (c1_i32_622 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v975 : BitVec 32 := Scalar.addi v2 c1_i32_622
  let c16_i32_623 : BitVec 32 := 16#32
  let v976 : BitVec 32 := Scalar.remsi v975 c16_i32_623
  let c64_i32_624 : BitVec 32 := 64#32
  let v977 : BitVec 32 := Scalar.muli v976 c64_i32_624
  let c0_i32_627 : BitVec 32 := 0#32
  ![v977.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x32768, .bf16⟩
  | .hbm, ⟨2, _⟩ => ⟨S32768x1024, .bf16⟩
  | .hbm, ⟨3, _⟩ => ⟨S1024x32768, .f32⟩
  | .hbm, ⟨4, _⟩ => ⟨S1024x32768, .bf16⟩
  | .hbm, ⟨5, _⟩ => ⟨S_, .bf16⟩
  | .hbm, ⟨6, _⟩ => ⟨S1024x32768, .bf16⟩
  | .hbm, ⟨7, _⟩ => ⟨S1024x32768, .bf16⟩
  | .hbm, ⟨8, _⟩ => ⟨S1024x1024, .f32⟩
  | .hbm, ⟨9, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Mesh.lean ====
/-
# The sixteen devices and the semaphores they meet on

Device `c` keeps chunk `c` of the result (rows `64 c` to `64 c + 63`). It meets every other device four ways: by one unit
of that device's barrier, by one copy of a partial chunk, and by one copy of a finished chunk; the copies report on three
arrays of sixteen semaphores, one semaphore per other device. This module names the devices in the order in which the
kernel visits them, and the semaphores.
-/
module

public import proofs.«01_k».proof.Proof.Gen.KernelIdeal

@[expose] public section

noncomputable section

namespace Cert.Mlp

open Cert.KernelIdeal Cert.KernelIdeal.Gen
open Idealize.ShloMosaic Idealize.ShloMosaic.TcCoe

/-! ## The orders of visit -/

set_option backward.proofsInPublic true in
/-- The `k`-th of the other devices, counting up from `c` around the ring. -/
def peer (c : Dev nD) (k : ℕ) : Dev nD := ⟨(c.val + (k + 1)) % 16, Nat.mod_lt _ (by decide)⟩

set_option backward.proofsInPublic true in
/-- The group of two chunks that device `c` computes in its trip `i`: the pair of its own chunk comes last. -/
def grp (c : Dev nD) (i : ℕ) : Fin 8 := ⟨(c.val / 2 + 1 + i) % 8, Nat.mod_lt _ (by decide)⟩

set_option backward.proofsInPublic true in
/-- The chunk that device `c` turns to `j`-th within its trip `i`. -/
def chunkAt (c : Dev nD) (i j : ℕ) : Dev nD :=
  ⟨2 * (grp c i).val + (c.val + j) % 2, by have h : nD = 16 := rfl; have := (grp c i).isLt; have := Nat.mod_lt (c.val + j) (show 0 < 2 by decide); omega⟩

/-- The `s`-th device that device `c` sends a partial chunk to: two per trip, and one in the last trip, whose other chunk is `c`'s own. -/
def tgt (c : Dev nD) (s : ℕ) : Dev nD := if s < 14 then chunkAt c (s / 2) (s % 2) else chunkAt c 7 1

/-- The devices other than `c`. -/
def others (c : Dev nD) : Finset (Dev nD) := Finset.univ.erase c

/-- The device at a distance below fifteen is another one. -/
theorem peer_ne (c : Dev nD) {k : ℕ} (hk : k < 15) : peer c k ≠ c := by
  intro h; have := congrArg Fin.val h; have := c.isLt; simp only [peer] at *; omega

/-- Different distances give different devices. -/
theorem peer_inj (c : Dev nD) : Set.InjOn (peer c) (Finset.range 15 : Set ℕ) := by
  intro a ha b hb h
  have ha : a < 15 := Finset.mem_range.mp ha
  have hb : b < 15 := Finset.mem_range.mp hb
  have := congrArg Fin.val h; have := c.isLt; simp only [peer] at *; omega

/-- The fifteen distances go through all the other devices. -/
theorem peer_image (c : Dev nD) : (Finset.range 15).image (peer c) = others c := by revert c; decide +kernel

/-- The fifteen sends go to all the other devices. -/
theorem tgt_image (c : Dev nD) : (Finset.range 15).image (tgt c) = others c := by revert c; decide +kernel

/-- Different sends go to different devices. -/
theorem tgt_inj (c : Dev nD) : Set.InjOn (tgt c) (Finset.range 15 : Set ℕ) :=
  Finset.card_image_iff.mp (by rw [tgt_image]; revert c; decide +kernel)

/-- The other devices are those that are not this one. -/
theorem mem_others {c d : Dev nD} : Iff (d ∈ others c) (d ≠ c) := by unfold others; simp

/-- The device at a distance is among the others. -/
theorem peer_mem (c : Dev nD) {k : ℕ} (hk : k < 15) : peer c k ∈ others c := mem_others.mpr (peer_ne c hk)
/-- The device that a send goes to is among the others. -/
theorem tgt_mem (c : Dev nD) {s : ℕ} (hs : s < 15) : tgt c s ∈ others c :=
  tgt_image c ▸ Finset.mem_image_of_mem _ (Finset.mem_range.mpr hs)
/-- A send goes to another device. -/
theorem tgt_ne (c : Dev nD) {s : ℕ} (hs : s < 15) : tgt c s ≠ c := mem_others.mp (tgt_mem c hs)

set_option backward.proofsInPublic true in
/-- The trips reach every group once. -/
theorem grp_inj (c : Dev nD) : Set.InjOn (grp c) (Finset.range 8 : Set ℕ) := by
  intro a ha b hb h
  have ha : a < 8 := Finset.mem_range.mp ha
  have hb : b < 8 := Finset.mem_range.mp hb
  have := congrArg Fin.val h; have := c.isLt; simp only [grp] at *; omega

/-- The eight trips go through all the groups. -/
theorem grp_image (c : Dev nD) : (Finset.range 8).image (grp c) = Finset.univ := by revert c; decide +kernel

/-! ## The semaphores -/

/-- The barrier semaphore. -/
abbrev barS : Sem sig := (SemArray.scalar (sig.barrier 0 rfl) : Sems sig S_).sem

set_option backward.proofsInPublic true in
/-- Device `p`'s place in the array of semaphores that the copies to it report on at the sender. -/
def sendS (p : Dev nD) : DmaSem sig := ⟨4 + p.val, Nat.lt_of_lt_of_le (Nat.add_lt_add_left p.isLt 4) (by decide)⟩
set_option backward.proofsInPublic true in
/-- Device `p`'s place in the array of semaphores that partial chunks from it report on. -/
def recvS (p : Dev nD) : DmaSem sig := ⟨20 + p.val, Nat.lt_of_lt_of_le (Nat.add_lt_add_left p.isLt 20) (by decide)⟩
set_option backward.proofsInPublic true in
/-- Device `p`'s place in the array of semaphores that the finished chunk from it reports on. -/
def agS (p : Dev nD) : DmaSem sig := ⟨36 + p.val, Nat.lt_of_lt_of_le (Nat.add_lt_add_left p.isLt 36) (by decide)⟩

/-- The barrier of device `c`. -/
abbrev barC (c : Dev nD) : GSem nD τ sig := ((c : Thread nD τ), .reg barS)
/-- The semaphore of device `c` that counts its copies to device `p`. -/
abbrev sendC (c p : Dev nD) : GSem nD τ sig := ((c : Thread nD τ), .dma (sendS p))
/-- The semaphore of device `c` that counts the partial product from device `p`. -/
abbrev recvC (c p : Dev nD) : GSem nD τ sig := ((c : Thread nD τ), .dma (recvS p))
/-- The semaphore of device `c` that counts the finished chunk from device `p`. -/
abbrev agC (c p : Dev nD) : GSem nD τ sig := ((c : Thread nD τ), .dma (agS p))

/-- What a semaphore is for. -/
inductive Use where
  | none | bar | send (p : Dev nD) | recv (p : Dev nD) | ag (p : Dev nD)
  deriving DecidableEq

set_option backward.proofsInPublic true in
/-- The use of each semaphore of a device, by its number. -/
def useOf : SemLoc sig → Use
  | .reg _ => .bar
  | .dma q =>
    if h₁ : q.val < 4 then .none
    else if h₂ : q.val < 20 then .send ⟨q.val - 4, by have h : nD = 16 := rfl; omega⟩
    else if h₃ : q.val < 36 then .recv ⟨q.val - 20, by have h : nD = 16 := rfl; omega⟩
    else .ag ⟨(q.val - 36) % 16, Nat.mod_lt _ (by decide)⟩

/-- The barrier's use. -/
theorem useOf_bar : useOf (.reg barS) = .bar := rfl
/-- The use of a send semaphore. -/
theorem useOf_send (p : Dev nD) : useOf (.dma (sendS p)) = .send p := by revert p; decide +kernel
/-- The use of a receive semaphore. -/
theorem useOf_recv (p : Dev nD) : useOf (.dma (recvS p)) = .recv p := by revert p; decide +kernel
/-- The use of a receive semaphore of the finished chunks. -/
theorem useOf_ag (p : Dev nD) : useOf (.dma (agS p)) = .ag p := by revert p; decide +kernel

/-- The semaphore at place `p` of an array of sixteen, as the kernel takes it: a slice of one, without its axis. -/
abbrev semAt (a : DmaSems sig S16) (off : Fin 1 → ℕ) (h : ∀ x, off x + S1.size x ≤ S16.size x) : DmaSem sig :=
  ((a.slice (Rect.unit (s := S16) off S1.size h)).squeeze S_ squeezes_S1_S_).sem

/-- Element `p` of the array of send semaphores. -/
theorem semAt_send (p : Dev nD) (h) : semAt cc0_scratch3 ![p.val] h = sendS p := by revert h; revert p; decide +kernel
/-- Element `p` of the array of receive semaphores. -/
theorem semAt_recv (p : Dev nD) (h) : semAt cc0_scratch4 ![p.val] h = recvS p := by revert h; revert p; decide +kernel
/-- Element `p` of the array of receive semaphores of the finished chunks. -/
theorem semAt_ag (p : Dev nD) (h) : semAt cc0_scratch5 ![p.val] h = agS p := by revert h; revert p; decide +kernel

end Cert.Mlp

end
-- ==== Proof.Contents.lean ====
/-
# What the buffers hold

Each device multiplies its own part of the weights with all of `x`, one group of 128 rows at a time, and keeps the
products as sixteen chunks of 64 rows. The chunks travel: chunk `c` of every device arrives at device `c`, which adds the
sixteen of them and sends the sum to everyone. This module says what every buffer holds once it is written, as one value of
the whole buffer; the elements of a buffer that a step concerns are the elements of one slot, or of 64 rows.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Value
public import Idealize.ShloMosaic.Lib.ValueLayout
public import Idealize.ShloMosaic.Lib.ValueIdxCoords

@[expose] public section

noncomputable section

namespace Cert.Mlp

open Cert.KernelIdeal Cert.KernelIdeal.Gen
open Idealize.ShloMosaic Idealize.ShloMosaic.TcCoe Idealize.ShloMosaic.ValueIdx

variable {F : FTy → Type} [FloatOps F]

/-! ## The buffers, whole -/

/-- The inputs, as the kernel holds them. -/
abbrev xM : Memref sig .tc .vmem S1024x1024 .bf16 := Memref.whole cc0_stg0_0
/-- The device's columns of the first layer's weights. -/
abbrev w1M : Memref sig .tc .vmem S1024x2048 .bf16 := Memref.whole cc0_stg1_0
/-- The device's rows of the second layer's weights. -/
abbrev w2M : Memref sig .tc .vmem S2048x1024 .bf16 := Memref.whole cc0_stg2_0
/-- The result. -/
abbrev oM : Memref sig .tc .vmem S1024x1024 .bf16 := Memref.whole cc0_stg3_0
/-- The buffer of the partial products, a slot for each device. -/
abbrev stM : Memref sig .tc .vmem S16x64x1024 .bf16 := Memref.whole cc0_scratch0
/-- The buffer that receives the others' partial products, a slot for each device. -/
abbrev rsM : Memref sig .tc .vmem S16x64x1024 .bf16 := Memref.whole cc0_scratch1
/-- The buffer of the finished chunk. -/
abbrev agM : Memref sig .tc .vmem S64x1024 .bf16 := Memref.whole cc0_scratch2

/-! ## Slots, groups and rows: rectangles and their elements -/

/-- The offset of slot `p` in a buffer of sixteen chunks. -/
abbrev slotOff (p : Dev nD) : Fin 3 → ℕ := ![p.val, 0, 0]
/-- The offset of a pair of slots. -/
abbrev pairOff (g : Fin 8) : Fin 3 → ℕ := ![2 * g.val, 0, 0]
/-- The offset of chunk `p`'s rows. -/
abbrev rowOff (p : Dev nD) : Fin 2 → ℕ := ![64 * p.val, 0]

/-- A slot lies inside its buffer. -/
theorem slot_inb (p : Dev nD) : ∀ a, slotOff p a + S1x64x1024.size a ≤ S16x64x1024.size a := by revert p; decide +kernel
/-- The two slots of a group lie inside their buffer. -/
theorem pair_inb (g : Fin 8) : ∀ a, pairOff g a + S2x64x1024.size a ≤ S16x64x1024.size a := by revert g; decide +kernel
/-- The rows of a device's chunk lie inside the result. -/
theorem row_inb (p : Dev nD) : ∀ a, rowOff p a + S64x1024.size a ≤ S1024x1024.size a := by revert p; decide +kernel
/-- The rows of a group lie inside the inputs. -/
theorem xrow_inb (g : Fin 8) : ∀ a, (![128 * g.val, 0] : Fin 2 → ℕ) a + S128x1024.size a ≤ S1024x1024.size a := by revert g; decide +kernel

/-- The slot of device `p`, as a rectangle. -/
abbrev slotR (p : Dev nD) : Rect S16x64x1024 := Rect.unit (s := S16x64x1024) (slotOff p) S1x64x1024.size (slot_inb p)
/-- The two slots of group `g`, as a rectangle. -/
abbrev pairR (g : Fin 8) : Rect S16x64x1024 := Rect.unit (s := S16x64x1024) (pairOff g) S2x64x1024.size (pair_inb g)
/-- The rows of the chunk of device `p`, as a rectangle. -/
abbrev rowR (p : Dev nD) : Rect S1024x1024 := Rect.unit (s := S1024x1024) (rowOff p) S64x1024.size (row_inb p)
/-- The rows of group `g` of the inputs, as a rectangle. -/
abbrev xrowR (g : Fin 8) : Rect S1024x1024 := Rect.unit (s := S1024x1024) ![128 * g.val, 0] S128x1024.size (xrow_inb g)

/-- Slot `p` of a buffer of sixteen chunks, as a block of 64 rows. -/
abbrev slotM (M : Memref sig .tc .vmem S16x64x1024 .bf16) (p : Dev nD) : Memref sig .tc .vmem S64x1024 .bf16 :=
  (M.slice (slotR p) (fun _ => rfl)).squeeze S64x1024 squeezes_S1x64x1024_S64x1024
/-- Chunk `p`'s rows of the result. -/
abbrev rowM (p : Dev nD) : Memref sig .tc .vmem S64x1024 .bf16 := oM.slice (rowR p) (fun _ => rfl)

/-- The elements of slot `p`. -/
def slotSet (p : Dev nD) : Finset S16x64x1024.Idx := Finset.univ.filter fun i => (i 0).val = p.val
/-- The elements of the two slots of group `g`. -/
def pairSet (g : Fin 8) : Finset S16x64x1024.Idx := Finset.univ.filter fun i => (i 0).val / 2 = g.val
/-- The elements of chunk `p`'s rows. -/
def rowSet (p : Dev nD) : Finset S1024x1024.Idx := Finset.univ.filter fun i => (i 0).val / 64 = p.val

/-- The elements of a slot are those whose first coordinate is its device. -/
theorem slotR_set (p : Dev nD) : (slotR p).set = slotSet p := by
  ext i
  rw [Rect.mem_set_unit, slotSet, Finset.mem_filter]
  refine ⟨fun h => ⟨Finset.mem_univ _, ?_⟩, fun h a => ?_⟩
  · have := h 0; simp at this; omega
  · have h0 := h.2
    fin_cases a
    · simp; omega
    · have := (i 1).isLt; simp at this ⊢; omega
    · have := (i 2).isLt; simp at this ⊢; omega

/-- The elements of a group's two slots are those whose first coordinate, halved, is the group. -/
theorem pairR_set (g : Fin 8) : (pairR g).set = pairSet g := by
  ext i
  rw [Rect.mem_set_unit, pairSet, Finset.mem_filter]
  refine ⟨fun h => ⟨Finset.mem_univ _, ?_⟩, fun h a => ?_⟩
  · have := h 0; simp at this; omega
  · have h0 := h.2
    fin_cases a
    · simp; omega
    · have := (i 1).isLt; simp at this ⊢; omega
    · have := (i 2).isLt; simp at this ⊢; omega

/-- The elements of a chunk's rows are those whose row, divided by 64, is the device. -/
theorem rowR_set (p : Dev nD) : (rowR p).set = rowSet p := by
  ext i
  rw [Rect.mem_set_unit, rowSet, Finset.mem_filter]
  refine ⟨fun h => ⟨Finset.mem_univ _, ?_⟩, fun h a => ?_⟩
  · have := h 0; simp at this; omega
  · have h0 := h.2
    fin_cases a
    · simp; omega
    · have := (i 1).isLt; simp at this ⊢; omega

/-- The slots of two devices share no element. -/
theorem slotSet_disjoint {p p' : Dev nD} (h : p ≠ p') : Disjoint (slotSet p) (slotSet p') := by
  rw [Finset.disjoint_left]; intro i hi hi'
  exact h (Fin.ext ((Finset.mem_filter.mp hi).2.symm.trans (Finset.mem_filter.mp hi').2))
/-- The slots of two groups share no element. -/
theorem pairSet_disjoint {p p' : Fin 8} (h : p ≠ p') : Disjoint (pairSet p) (pairSet p') := by
  rw [Finset.disjoint_left]; intro i hi hi'
  exact h (Fin.ext ((Finset.mem_filter.mp hi).2.symm.trans (Finset.mem_filter.mp hi').2))
/-- The rows of two chunks share no element. -/
theorem rowSet_disjoint {p p' : Dev nD} (h : p ≠ p') : Disjoint (rowSet p) (rowSet p') := by
  rw [Finset.disjoint_left]; intro i hi hi'
  exact h (Fin.ext ((Finset.mem_filter.mp hi).2.symm.trans (Finset.mem_filter.mp hi').2))

/-- The slots make up the buffer. -/
theorem slotSet_cover : Finset.univ.biUnion slotSet = (Finset.univ : Finset S16x64x1024.Idx) := by
  ext i; simp only [Finset.mem_biUnion, Finset.mem_univ, true_and, iff_true]
  exact ⟨⟨(i 0).val, (i 0).isLt⟩, Finset.mem_filter.mpr ⟨Finset.mem_univ _, rfl⟩⟩
/-- The groups' slots make up the buffer. -/
theorem pairSet_cover : Finset.univ.biUnion pairSet = (Finset.univ : Finset S16x64x1024.Idx) := by
  ext i; simp only [Finset.mem_biUnion, Finset.mem_univ, true_and, iff_true]
  have : (i 0).val < 16 := (i 0).isLt
  exact ⟨⟨(i 0).val / 2, by omega⟩, Finset.mem_filter.mpr ⟨Finset.mem_univ _, rfl⟩⟩
/-- The chunks' rows make up the result. -/
theorem rowSet_cover : Finset.univ.biUnion rowSet = (Finset.univ : Finset S1024x1024.Idx) := by
  ext i; simp only [Finset.mem_biUnion, Finset.mem_univ, true_and, iff_true]
  have : (i 0).val < 1024 := (i 0).isLt
  have h16 : nD = 16 := rfl
  exact ⟨⟨(i 0).val / 64, by omega⟩, Finset.mem_filter.mpr ⟨Finset.mem_univ _, rfl⟩⟩

/-- The two chunks of a trip are the two slots of its group. -/
theorem pairSet_eq (c : Dev nD) (i : ℕ) : pairSet (grp c i) = slotSet (chunkAt c i 0) ∪ slotSet (chunkAt c i 1) := by
  ext j
  unfold pairSet slotSet
  rw [Finset.mem_union, Finset.mem_filter, Finset.mem_filter, Finset.mem_filter]
  simp only [chunkAt, Finset.mem_univ, true_and]
  omega
/-- The two chunks of a turn are different. -/
theorem chunkAt_ne (c : Dev nD) (i : ℕ) : chunkAt c i 0 ≠ chunkAt c i 1 := by
  intro h; have := congrArg Fin.val h; simp only [chunkAt] at this; omega

/-- The elements of a slot of the partial products, seen through the memory reference that the kernel slices. -/
theorem st_set (p : Dev nD) : (slotM stM p).view.set = slotSet p := by
  rw [← slotR_set]
  show (((View.whole cc0_scratch0).slice (slotR p)).reshape _ _).set = _
  rw [View.set_reshape]; exact View.set_slice_whole cc0_scratch0 (slotR p)
/-- The elements of a slot of the receive buffer, seen likewise. -/
theorem rs_set (p : Dev nD) : (slotM rsM p).view.set = slotSet p := by
  rw [← slotR_set]
  show (((View.whole cc0_scratch1).slice (slotR p)).reshape _ _).set = _
  rw [View.set_reshape]; exact View.set_slice_whole cc0_scratch1 (slotR p)
/-- The elements of a chunk's rows of the result, seen likewise. -/
theorem row_set (p : Dev nD) : (rowM p).view.set = rowSet p := by
  rw [← rowR_set]; exact View.set_slice_whole cc0_stg3_0 (rowR p)

/-! ## The contents -/

variable (m : (ℓ : Loc nD τ sig) → Buf (Elt F) ℓ)

/-- Device `c`'s copy of `x`, and its parts of the two weights, as the kernel finds them. -/
def xstg (c : Dev nD) : (cc0_stg0_0 : Ref sig .tc).ty.Contents (Elt F) := (win0_0.blk (0 : Fin 1)).view.read (Elt F) (m ((c : Thread nD τ).loc main_arg0))
/-- The first layer's weights that device `c` holds when the kernel starts. -/
def w1stg (c : Dev nD) : (cc0_stg1_0 : Ref sig .tc).ty.Contents (Elt F) := (win0_1.blk (0 : Fin 1)).view.read (Elt F) (m ((c : Thread nD τ).loc main_arg1))
/-- The second layer's weights that device `c` holds when the kernel starts. -/
def w2stg (c : Dev nD) : (cc0_stg2_0 : Ref sig .tc).ty.Contents (Elt F) := (win0_2.blk (0 : Fin 1)).view.read (Elt F) (m ((c : Thread nD τ).loc main_arg2))

/-- The rows of `x` of one group. -/
def xrows (c : Dev nD) (g : Fin 8) : Vec F S128x1024 .bf16 := xM.view.readAt (Elt F) (xrowR g).toLoadRect (xstg m c)

/-- Device `c`'s product for the rows of group `g`, as two chunks. -/
def groupVal (c : Dev nD) (g : Fin 8) : FVec F S2x64x1024 .bf16 :=
  k0_pay3 (k0_pay1 (w1stg m c)) (k0_pay2 (w2stg m c)) (xrows m c g)

set_option backward.proofsInPublic true in
/-- All sixteen chunks of device `c`'s product. -/
def stageFull (c : Dev nD) : S16x64x1024.Idx → Elt F .bf16 := fun i =>
  groupVal m c ⟨(i 0).val / 2, by have : (i 0).val < 16 := (i 0).isLt; omega⟩
    (ix3 (⟨(i 0).val % 2, Nat.mod_lt _ (by decide)⟩ : Fin 2) (⟨(i 1).val, (i 1).isLt⟩ : Fin 64) (⟨(i 2).val, (i 2).isLt⟩ : Fin 1024))

set_option backward.proofsInPublic true in
/-- What arrives at device `c`: in slot `p`, chunk `c` of device `p`. -/
def rsFull (c : Dev nD) : S16x64x1024.Idx → Elt F .bf16 := fun i =>
  stageFull m ⟨(i 0).val, (i 0).isLt⟩ (ix3 c (⟨(i 1).val, (i 1).isLt⟩ : Fin 64) (⟨(i 2).val, (i 2).isLt⟩ : Fin 1024))

/-- Device `c`'s own partial chunk, and the one from device `p`, as the kernel loads them. -/
def ownLoad (c : Dev nD) : Vec F S1x64x1024 .bf16 := stM.view.readAt (Elt F) (slotR c).toLoadRect (stageFull m c)
/-- The partial product from device `p`, as device `c` loads it. -/
def rsLoad (c p : Dev nD) : Vec F S1x64x1024 .bf16 := rsM.view.readAt (Elt F) (slotR p).toLoadRect (rsFull m c)

/-- The running sum on device `c`: its own partial chunk, then those of the first `k` others. -/
def accAt (c : Dev nD) : ℕ → FVec F S64x1024 .f32
  | 0 => extf .f32 (shapeCast S64x1024 (ownLoad m c) shapeCasts_S1x64x1024_S64x1024) bitsLt_bf16_f32
  | k + 1 => addf (accAt c k) (extf .f32 (shapeCast S64x1024 (rsLoad m c (peer c k)) shapeCasts_S1x64x1024_S64x1024) bitsLt_bf16_f32)

/-- Chunk `c` of the result. -/
def agVal (c : Dev nD) : S64x1024.Idx → Elt F .bf16 := k0_pay21 (truncf .bf16 (accAt m c 15) bitsLt_bf16_f32)

set_option backward.proofsInPublic true in
/-- The result: the sixteen chunks, one below the other. -/
def outFull : S1024x1024.Idx → Elt F .bf16 := fun i =>
  agVal m ⟨(i 0).val / 64, by have : (i 0).val < 1024 := (i 0).isLt; have h : nD = 16 := rfl; omega⟩
    (ix2 (⟨(i 0).val % 64, Nat.mod_lt _ (by decide)⟩ : Fin 64) (⟨(i 1).val, (i 1).isLt⟩ : Fin 1024))

/-! ### The payloads of the trips and of the sum, by these names -/

/-- The running sum after one received chunk, as the kernel writes it; -/
theorem acc_1 (c : Dev nD) : k0_pay13 (ownLoad m c) (rsLoad m c (peer c 0)) = accAt m c 1 := rfl
/-- after three; -/
theorem acc_3 (c : Dev nD) : k0_pay14 (accAt m c 1) (rsLoad m c (peer c 1)) (rsLoad m c (peer c 2)) = accAt m c 3 := rfl
/-- after five; -/
theorem acc_5 (c : Dev nD) : k0_pay15 (accAt m c 3) (rsLoad m c (peer c 3)) (rsLoad m c (peer c 4)) = accAt m c 5 := rfl
/-- after eight; -/
theorem acc_8 (c : Dev nD) : k0_pay17 (accAt m c 5) (k0_pay16 (rsLoad m c (peer c 5))) (rsLoad m c (peer c 6)) (rsLoad m c (peer c 7)) = accAt m c 8 := rfl
/-- after ten; -/
theorem acc_10 (c : Dev nD) : k0_pay18 (accAt m c 8) (rsLoad m c (peer c 8)) (rsLoad m c (peer c 9)) = accAt m c 10 := rfl
/-- after twelve; -/
theorem acc_12 (c : Dev nD) : k0_pay19 (accAt m c 10) (rsLoad m c (peer c 10)) (rsLoad m c (peer c 11)) = accAt m c 12 := rfl
/-- and after all fifteen, the finished chunk. -/
theorem acc_15 (c : Dev nD) : k0_pay21 (k0_pay20 (accAt m c 12) (rsLoad m c (peer c 12)) (rsLoad m c (peer c 13)) (rsLoad m c (peer c 14))) = agVal m c := rfl

end Cert.Mlp

end
-- ==== Proof.Landing.lean ====
/-
# What a copy or a store leaves

The four ways a buffer is written — a trip's store into its group, a copy landing in a slot, a finished chunk landing in the
result, and the device's own chunk stored there — each leave, on the elements written, the contents named in `Contents`.
-/
module

public import proofs.«01_k».proof.Proof.Contents

@[expose] public section

noncomputable section

namespace Cert.Mlp

open Cert.KernelIdeal Cert.KernelIdeal.Gen
open Idealize.ShloMosaic Idealize.ShloMosaic.TcCoe Idealize.ShloMosaic.ValueIdx

variable {F : FTy → Type} [FloatOps F]

/-- Row `a`, lane `b` of slot `p`, as an element of the buffer. -/
theorem st_emb (p : Dev nD) (a : Fin 64) (b : Fin 1024) : (slotM stM p).view.emb (ix2 a b) = ix3 p a b := by
  show (slotR p).emb (Shape.reshapeEquiv _ (ix2 a b)) = _
  rw [reshapeEquiv_ix2_1ab]
  funext d
  fin_cases d
  · exact Fin.ext (show p.val + 1 * 0 = p.val by omega)
  · exact Fin.ext (show 0 + 1 * a.val = a.val by omega)
  · exact Fin.ext (show 0 + 1 * b.val = b.val by omega)
/-- Where the element of a chunk lies in a slot of the receive buffer. -/
theorem rs_emb (p : Dev nD) (a : Fin 64) (b : Fin 1024) : (slotM rsM p).view.emb (ix2 a b) = ix3 p a b := st_emb p a b

/-- Row `a`, lane `b` of chunk `p`'s rows, as an element of the result. -/
theorem row_emb (p : Dev nD) (a : Fin 64) (b : Fin 1024) (h : 64 * p.val + a.val < 1024) :
    (rowM p).view.emb (ix2 a b) = ix2 (⟨64 * p.val + a.val, h⟩ : Fin 1024) b := by
  show (rowR p).emb (ix2 a b) = _
  funext d
  fin_cases d
  · exact Fin.ext (show 64 * p.val + 1 * a.val = 64 * p.val + a.val by omega)
  · exact Fin.ext (show 0 + 1 * b.val = b.val by omega)

/-- Where the element of a group's product lies in the buffer of the partial products. -/
theorem pair_emb (g : Fin 8) (j : Fin 2) (a : Fin 64) (b : Fin 1024) (h : 2 * g.val + j.val < 16) :
    (pairR g).emb (ix3 j a b) = ix3 (⟨2 * g.val + j.val, h⟩ : Fin 16) a b := by
  funext d
  fin_cases d
  · exact Fin.ext (show 2 * g.val + 1 * j.val = 2 * g.val + j.val by omega)
  · exact Fin.ext (show 0 + 1 * a.val = a.val by omega)
  · exact Fin.ext (show 0 + 1 * b.val = b.val by omega)

variable (m : (ℓ : Loc nD τ sig) → Buf (Elt F) ℓ)

/-- The copy of device `c`'s chunk `t` into slot `c` of device `t`. -/
theorem landed_rs (c t : Dev nD) (fd : S16x64x1024.Idx → Elt F .bf16) (i : S16x64x1024.Idx) (hi : i ∈ slotSet c) :
    (slotM rsM c).view.write (Elt F) fd ((slotM stM t).view.read (Elt F) (stageFull m c)) Finset.univ i = rsFull m t i := by
  rw [← rs_set c] at hi
  obtain ⟨x, -, rfl⟩ := Finset.mem_map.mp hi
  obtain ⟨a, b, rfl⟩ : ∃ (a : Fin 64) (b : Fin 1024), x = ix2 a b := ⟨x 0, x 1, eq_ix2 x⟩
  rw [View.write_emb_of_mem _ _ (Finset.mem_univ (ix2 a b)), View.read_apply, rs_emb c a b, st_emb t a b]
  rfl

/-- The copy of chunk `c` into its rows of the result. -/
theorem landed_out (c : Dev nD) (fd : S1024x1024.Idx → Elt F .bf16) (i : S1024x1024.Idx) (hi : i ∈ rowSet c) :
    (rowM c).view.write (Elt F) fd (agVal m c) Finset.univ i = outFull m i := by
  rw [← row_set c] at hi
  obtain ⟨x, -, rfl⟩ := Finset.mem_map.mp hi
  obtain ⟨a, b, rfl⟩ : ∃ (a : Fin 64) (b : Fin 1024), x = ix2 a b := ⟨x 0, x 1, eq_ix2 x⟩
  have h16 : c.val < 16 := c.isLt
  have ha := a.isLt
  rw [View.write_emb_of_mem _ _ (Finset.mem_univ (ix2 a b)), row_emb c a b (by omega)]
  show agVal m c (ix2 a b) = agVal m ⟨(64 * c.val + a.val) / 64, _⟩ (ix2 ⟨(64 * c.val + a.val) % 64, _⟩ ⟨b.val, _⟩)
  congr 1
  · exact Fin.ext (show c.val = (64 * c.val + a.val) / 64 by omega)
  · congr 1
    exact Fin.ext (show a.val = (64 * c.val + a.val) % 64 by omega)

/-- The store of a trip's product into its group. -/
theorem stored_pair (c : Dev nD) (g : Fin 8) (f : S16x64x1024.Idx → Elt F .bf16) (i : S16x64x1024.Idx) (hi : i ∈ pairSet g) :
    (stM.access (pairR g)).write (Elt F) f (groupVal m c g) Finset.univ i = stageFull m c i := by
  rw [← pairR_set g] at hi
  obtain ⟨x, -, rfl⟩ := Finset.mem_map.mp ((Rect.map_emb_univ (pairR g)).symm ▸ hi)
  obtain ⟨j, a, b, rfl⟩ : ∃ (j : Fin 2) (a : Fin 64) (b : Fin 1024), x = ix3 j a b := ⟨x 0, x 1, x 2, eq_ix3 x⟩
  have hg : g.val < 8 := g.isLt
  have hj : j.val < 2 := j.isLt
  refine (View.write_emb_of_mem (v := stM.access (pairR g)) _ _ (Finset.mem_univ (ix3 j a b))).trans ?_
  rw [pair_emb g j a b (by omega)]
  show groupVal m c g (ix3 j a b) = groupVal m c ⟨(2 * g.val + j.val) / 2, _⟩ (ix3 ⟨(2 * g.val + j.val) % 2, _⟩ ⟨a.val, _⟩ ⟨b.val, _⟩)
  congr 1
  · exact Fin.ext (show g.val = (2 * g.val + j.val) / 2 by omega)
  · congr 1
    exact Fin.ext (show j.val = (2 * g.val + j.val) % 2 by omega)

end Cert.Mlp

end
-- ==== Proof.Protocol.lean ====
/-
# What the devices promise each other

Every semaphore of a device is given a schedule: who raises it, by how much, and what comes with it. A unit of a barrier
brings the sender's slot and its rows of the result that the receiver will write; a copy that has left brings its source
back to its sender; a copy that has arrived brings the written elements to its receiver. A semaphore of copies leaving
towards device `p` is used twice, once for the partial chunk and once for the finished one, so it has two rounds.
-/
module

public import proofs.«01_k».proof.Proof.Landing
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- The records of the semaphores' rounds. -/
abbrev UB : Type := URounds (GSem nD τ sig) (Dev nD)
/-- These, beside the records of the pipeline that moves the arguments and the result. -/
abbrev UU : Type := UR sig nD τ × UB

local notation "𝕄" => MT nD τ sig Unit (Elt F) ℕ UU ℕ

/-- The pipeline's records among all. -/
abbrev EP : Emb (UR sig nD τ) (MT nD τ sig Unit (Elt F) ℕ UU ℕ) := embL
/-- The rounds' records among all. -/
abbrev ER : Emb UB (MT nD τ sig Unit (Elt F) ℕ UU ℕ) := embR

/-- The kernel has no loops that need a measure. -/
abbrev 𝒱₀ : Variants := Variants.none

variable (m : (ℓ : Loc nD τ sig) → Buf (Elt F) ℓ)

/-! ## Parts of the buffers -/

/-- Slot `p` of device `c`'s buffer of partial chunks. -/
def stPts (c p : Dev nD) (f : S16x64x1024.Idx → Elt F .bf16) : sProp 𝕄 := ((c : Thread nD τ).loc cc0_scratch0) ↦[slotSet p]{fullShare} f
/-- Slot `p` of device `c`'s buffer of arrived chunks. -/
def rsPts (c p : Dev nD) (f : S16x64x1024.Idx → Elt F .bf16) : sProp 𝕄 := ((c : Thread nD τ).loc cc0_scratch1) ↦[slotSet p]{fullShare} f
/-- Device `c`'s finished chunk, at one of sixteen equal shares. -/
def agPts (c p : Dev nD) (f : S64x1024.Idx → Elt F .bf16) : sProp 𝕄 := ((c : Thread nD τ).loc cc0_scratch2) ↦[Finset.univ]{ShareLeaves.leaf 4 fullShare p} f
/-- Chunk `p`'s rows of device `c`'s result. -/
def outPts (c p : Dev nD) (f : S1024x1024.Idx → Elt F .bf16) : sProp 𝕄 := ((c : Thread nD τ).loc cc0_stg3_0) ↦[rowSet p]{fullShare} f

/-- A slot of the partial products can be lent. -/
instance stPts_storable (c p : Dev nD) (f) : BI.Storable (upEmb : UEmb _ 𝕄) (stPts (F := F) c p f) := by unfold stPts; infer_instance
/-- A slot of the receive buffer can be lent. -/
instance rsPts_storable (c p : Dev nD) (f) : BI.Storable (upEmb : UEmb _ 𝕄) (rsPts (F := F) c p f) := by unfold rsPts; infer_instance
/-- The buffer of the finished chunk can be lent. -/
instance agPts_storable (c p : Dev nD) (f) : BI.Storable (upEmb : UEmb _ 𝕄) (agPts (F := F) c p f) := by unfold agPts; infer_instance
/-- Rows of the result can be lent. -/
instance outPts_storable (c p : Dev nD) (f) : BI.Storable (upEmb : UEmb _ 𝕄) (outPts (F := F) c p f) := by unfold outPts; infer_instance

/-! ## The schedule -/

/-- The amount by which a copy of one chunk raises a semaphore. -/
abbrev N : ℕ := (agM : Memref sig .tc .vmem S64x1024 .bf16).view.dmaCredit
/-- A chunk counts more than nothing. -/
theorem N_pos : 0 < N := View.dmaCredit_pos _ (by decide)

/-- Who raises a semaphore of device `c` in round `r`. -/
def dutiesOf (c : Dev nD) : Use → ℕ → Finset (Dev nD)
  | .bar, 0 => others c
  | .send p, 0 => if p = c then ∅ else {p}
  | .send p, 1 => if p = c then ∅ else {p}
  | .recv p, 0 => if p = c then ∅ else {p}
  | .ag p, 0 => if p = c then ∅ else {p}
  | _, _ => ∅

/-- What comes with it. -/
def payOf (c : Dev nD) : Use → ℕ → Dev nD → sProp 𝕄
  | .bar, _, d => iprop((∃ f, rsPts d c f) ∗ ∃ f, outPts d c f)
  | .send p, 0, _ => stPts c p (stageFull m c)
  | .send p, _ + 1, _ => agPts c p (agVal m c)
  | .recv p, _, _ => rsPts c p (rsFull m c)
  | .ag p, _, _ => outPts c p (outFull m)
  | .none, _, _ => iprop(emp)

/-- What is paid can be lent. -/
instance payOf_storable (c : Dev nD) (u : Use) (r : ℕ) (d : Dev nD) : BI.Storable (upEmb : UEmb _ 𝕄) (payOf m c u r d) := by
  unfold payOf; split <;> infer_instance

/-- The schedule of every semaphore. -/
def Rd : Rounds.Schedule (GSem nD τ sig) (Dev nD) 𝕄 where
  duties g r := if g.1.2 = .tc then dutiesOf g.1.1 (useOf g.2) r else ∅
  unitless _ := False
  amount g _ _ := if useOf g.2 = .bar then 1 else N
  payload g r d := payOf m g.1.1 (useOf g.2) r d
  amount_pos g _ _ _ := by
    by_cases h : useOf g.2 = .bar
    · rw [if_pos h]; exact Nat.one_pos
    · rw [if_neg h]; exact N_pos

/-- What is paid at a cell can be lent. -/
instance Rd_payload_storable (g : GSem nD τ sig) (r : ℕ) (d : Dev nD) : BI.Storable (upEmb : UEmb _ 𝕄) ((Rd m).payload g r d) :=
  payOf_storable m g.1.1 (useOf g.2) r d

section Facts
variable (c p d : Dev nD)

/-- The duties at a cell depend on its use only. -/
theorem duties_eq (sm : SemLoc sig) (r : ℕ) : (Rd m).duties ((c : Thread nD τ), sm) r = dutiesOf c (useOf sm) r := by
  show (if (Proc.tc : Proc τ) = .tc then dutiesOf c (useOf sm) r else ∅) = _
  exact if_pos rfl
/-- The barrier is owed a signal by each other device. -/
theorem duties_bar : (Rd m).duties (barC c) 0 = others c := rfl
/-- Each of its two rounds, a send semaphore is paid by the copy to its device. -/
theorem duties_send (h : p ≠ c) {r : ℕ} (hr : r < 2) : (Rd m).duties (sendC c p) r = {p} := by
  rw [duties_eq, useOf_send]
  match r, hr with
  | 0, _ => exact if_neg h
  | 1, _ => exact if_neg h
/-- A receive semaphore is paid by its sender. -/
theorem duties_recv (h : p ≠ c) : (Rd m).duties (recvC c p) 0 = {p} := by
  rw [duties_eq, useOf_recv]; exact if_neg h
/-- So is a receive semaphore of the finished chunks. -/
theorem duties_ag (h : p ≠ c) : (Rd m).duties (agC c p) 0 = {p} := by
  rw [duties_eq, useOf_ag]; exact if_neg h

/-- The barrier has one round; -/
theorem duties_bar_later : ∀ r, 1 ≤ r → (Rd m).duties (barC c) r = ∅
  | r + 1, _ => rfl
/-- a send semaphore two; -/
theorem duties_send_later : ∀ r, 2 ≤ r → (Rd m).duties (sendC c p) r = ∅ := fun r hr => by
  rw [duties_eq, useOf_send]
  match r, hr with
  | r + 2, _ => rfl
/-- a receive semaphore one; -/
theorem duties_recv_later : ∀ r, 1 ≤ r → (Rd m).duties (recvC c p) r = ∅ := fun r hr => by
  rw [duties_eq, useOf_recv]
  match r, hr with
  | r + 1, _ => rfl
/-- and so has one of the finished chunks. -/
theorem duties_ag_later : ∀ r, 1 ≤ r → (Rd m).duties (agC c p) r = ∅ := fun r hr => by
  rw [duties_eq, useOf_ag]
  match r, hr with
  | r + 1, _ => rfl
/-- The three semaphores that device `c` has for itself are never raised. -/
theorem duties_send_self : ∀ r, 0 ≤ r → (Rd m).duties (sendC c c) r = ∅ := fun r hr => by
  rw [duties_eq, useOf_send]
  match r with
  | 0 => exact if_pos rfl
  | 1 => exact if_pos rfl
  | r + 2 => rfl
/-- A device receives nothing from itself, -/
theorem duties_recv_self : ∀ r, 0 ≤ r → (Rd m).duties (recvC c c) r = ∅ := fun r hr => by
  rw [duties_eq, useOf_recv]
  match r with
  | 0 => exact if_pos rfl
  | r + 1 => rfl
/-- of either kind. -/
theorem duties_ag_self : ∀ r, 0 ≤ r → (Rd m).duties (agC c c) r = ∅ := fun r hr => by
  rw [duties_eq, useOf_ag]
  match r with
  | 0 => exact if_pos rfl
  | r + 1 => rfl

/-- A signal counts one; -/
theorem amount_bar (r : ℕ) : (Rd m).amount (barC c) r d = 1 := rfl
/-- a copy counts its chunk where it leaves, -/
theorem amount_send (r : ℕ) : (Rd m).amount (sendC c p) r d = N := if_neg (by show useOf (.dma (sendS p)) ≠ _; rw [useOf_send]; exact fun h => by cases h)
/-- where it arrives, -/
theorem amount_recv (r : ℕ) : (Rd m).amount (recvC c p) r d = N := if_neg (by show useOf (.dma (recvS p)) ≠ _; rw [useOf_recv]; exact fun h => by cases h)
/-- and in the second exchange. -/
theorem amount_ag (r : ℕ) : (Rd m).amount (agC c p) r d = N := if_neg (by show useOf (.dma (agS p)) ≠ _; rw [useOf_ag]; exact fun h => by cases h)

/-- A barrier is waited for until it has counted fifteen; -/
theorem expect_bar : (Rd m).expect (barC c) 0 = 15 := by
  unfold Schedule.expect Schedule.amountOf
  rw [duties_bar, Finset.sum_congr rfl fun d _ => amount_bar m c d 0, Finset.sum_const, smul_eq_mul, Nat.mul_one]
  revert c; decide +kernel
/-- a send semaphore until it has counted a chunk, -/
theorem expect_send (h : p ≠ c) {r : ℕ} (hr : r < 2) : (Rd m).expect (sendC c p) r = N := by
  unfold Schedule.expect Schedule.amountOf; rw [duties_send m c p h hr, Finset.sum_singleton, amount_send]
/-- a receive semaphore too, -/
theorem expect_recv (h : p ≠ c) : (Rd m).expect (recvC c p) 0 = N := by
  unfold Schedule.expect Schedule.amountOf; rw [duties_recv m c p h, Finset.sum_singleton, amount_recv]
/-- and one of the finished chunks. -/
theorem expect_ag (h : p ≠ c) : (Rd m).expect (agC c p) 0 = N := by
  unfold Schedule.expect Schedule.amountOf; rw [duties_ag m c p h, Finset.sum_singleton, amount_ag]

/-- With its signal, a device lends its slot and its rows of the result. -/
theorem payload_bar (r : ℕ) : (Rd m).payload (barC c) r d = iprop((∃ f, rsPts d c f) ∗ ∃ f, outPts d c f) := rfl
/-- The first send gives back the slot that it was read from; -/
theorem payload_send0 : (Rd m).payload (sendC c p) 0 d = stPts c p (stageFull m c) := by
  show payOf m c (useOf (.dma (sendS p))) 0 d = _; rw [useOf_send]; rfl
/-- the second its share of the finished chunk. -/
theorem payload_send1 : (Rd m).payload (sendC c p) 1 d = agPts c p (agVal m c) := by
  show payOf m c (useOf (.dma (sendS p))) 1 d = _; rw [useOf_send]; rfl
/-- With the count comes the slot, filled; -/
theorem payload_recv (r : ℕ) : (Rd m).payload (recvC c p) r d = rsPts c p (rsFull m c) := by
  show payOf m c (useOf (.dma (recvS p))) r d = _; rw [useOf_recv]; rfl
/-- and in the second exchange the rows of the result, filled. -/
theorem payload_ag (r : ℕ) : (Rd m).payload (agC c p) r d = outPts c p (outFull m) := by
  show payOf m c (useOf (.dma (agS p))) r d = _; rw [useOf_ag]; rfl

/-- What a device receives with the whole of a round. -/
theorem rest_bar : bigSep ((Rd m).duties (barC c) 0 \ ∅) (fun d => (Rd m).payload (barC c) 0 d)
    = bigSep (others c) fun d => iprop((∃ f, rsPts d c f) ∗ ∃ f, outPts (F := F) d c f) := by
  rw [Finset.sdiff_empty, duties_bar]; rfl
/-- All that the first round of a send semaphore gives back; -/
theorem rest_send0 (h : p ≠ c) : bigSep ((Rd m).duties (sendC c p) 0 \ ∅) (fun d => (Rd m).payload (sendC c p) 0 d) = stPts c p (stageFull m c) := by
  rw [Finset.sdiff_empty, duties_send m c p h (by decide), bigSep_singleton, payload_send0]
/-- all that the second does; -/
theorem rest_send1 (h : p ≠ c) : bigSep ((Rd m).duties (sendC c p) 1 \ ∅) (fun d => (Rd m).payload (sendC c p) 1 d) = agPts c p (agVal m c) := by
  rw [Finset.sdiff_empty, duties_send m c p h (by decide), bigSep_singleton, payload_send1]
/-- all that a receive semaphore does; -/
theorem rest_recv (h : p ≠ c) : bigSep ((Rd m).duties (recvC c p) 0 \ ∅) (fun d => (Rd m).payload (recvC c p) 0 d) = rsPts c p (rsFull m c) := by
  rw [Finset.sdiff_empty, duties_recv m c p h, bigSep_singleton, payload_recv]
/-- and all that one of the finished chunks does. -/
theorem rest_ag (h : p ≠ c) : bigSep ((Rd m).duties (agC c p) 0 \ ∅) (fun d => (Rd m).payload (agC c p) 0 d) = outPts c p (outFull m) := by
  rw [Finset.sdiff_empty, duties_ag m c p h, bigSep_singleton, payload_ag]

end Facts

/-! ## What each device owes -/

/-- The units of barriers that device `c` still owes when it has raised `k` of them. -/
def OB (c : Dev nD) (k : ℕ) : CellTallies nD τ sig Unit := ∑ j ∈ Finset.Ico k 15, tallyAt (barC (peer c j)) () 1
/-- The arrivals of partial chunks that it still owes when it has sent `s` of them. -/
def OV (c : Dev nD) (s : ℕ) : CellTallies nD τ sig Unit := ∑ j ∈ Finset.Ico s 15, tallyAt (recvC (tgt c j) c) () N
/-- The arrivals of its finished chunk that it still owes when it has sent it `k` times. -/
def OA (c : Dev nD) (k : ℕ) : CellTallies nD τ sig Unit := ∑ j ∈ Finset.Ico k 15, tallyAt (agC (peer c j) c) () N
/-- All it owes. -/
def owed (c : Dev nD) (ka kv kb : ℕ) : CellTallies nD τ sig Unit := OA c ka + OV c kv + OB c kb

/-- The turns from `k` on are turn `k` and those after it; -/
theorem Ico_peel {k : ℕ} (hk : k < 15) : Finset.Ico k 15 = insert k (Finset.Ico (k + 1) 15) := by
  ext j; simp only [Finset.mem_insert, Finset.mem_Ico]; omega
/-- so is a sum over them. -/
theorem sum_peel {A : Type} [AddCommMonoid A] (f : ℕ → A) {k : ℕ} (hk : k < 15) : ∑ j ∈ Finset.Ico k 15, f j = f k + ∑ j ∈ Finset.Ico (k + 1) 15, f j := by
  rw [Ico_peel hk, Finset.sum_insert (by rw [Finset.mem_Ico]; omega)]

/-- The signals still owed: the next one, and those after it. -/
theorem OB_peel (c : Dev nD) {k : ℕ} (hk : k < 15) : OB c k = tallyAt (barC (peer c k)) () 1 + OB c (k + 1) := sum_peel _ hk
/-- The partial products still owed, likewise. -/
theorem OV_peel (c : Dev nD) {k : ℕ} (hk : k < 15) : OV c k = tallyAt (recvC (tgt c k) c) () N + OV c (k + 1) := sum_peel _ hk
/-- The finished chunks still owed, likewise. -/
theorem OA_peel (c : Dev nD) {k : ℕ} (hk : k < 15) : OA c k = tallyAt (agC (peer c k) c) () N + OA c (k + 1) := sum_peel _ hk

/-- A signal takes one unit off what is owed; -/
theorem owed_bar (c : Dev nD) (ka kv : ℕ) {k : ℕ} (hk : k < 15) : owed c ka kv k = owed c ka kv (k + 1) + tallyAt (barC (peer c k)) () 1 := by
  unfold owed; rw [OB_peel c hk, add_comm (tallyAt _ _ _), add_assoc, add_assoc, add_assoc]
/-- a first send takes off its chunk; -/
theorem owed_recv (c : Dev nD) (ka kb : ℕ) {k : ℕ} (hk : k < 15) : owed c ka k kb = owed c ka (k + 1) kb + tallyAt (recvC (tgt c k) c) () N := by
  unfold owed; rw [OV_peel c hk, add_comm (tallyAt _ _ _), ← add_assoc, add_right_comm]
/-- and so does a second send. -/
theorem owed_ag (c : Dev nD) (kv kb : ℕ) {k : ℕ} (hk : k < 15) : owed c k kv kb = owed c (k + 1) kv kb + tallyAt (agC (peer c k) c) () N := by
  unfold owed; rw [OA_peel c hk, add_comm (tallyAt _ _ _), add_right_comm _ (tallyAt _ _ _), add_right_comm _ (tallyAt _ _ _)]
/-- At the end nothing is owed. -/
theorem owed_done (c : Dev nD) : owed c 15 15 15 = 0 := by
  unfold owed OA OV OB; rw [Finset.Ico_self, Finset.sum_empty, Finset.sum_empty, Finset.sum_empty, add_zero, add_zero]

/-- A cell at which something is owed is one turn's cell. -/
theorem tallies_pos {f : ℕ → GSem nD τ sig} {n k : ℕ} {g : GSem nD τ sig} {u : Unit}
    (h : 0 < (∑ j ∈ Finset.Ico k 15, tallyAt (f j) () n : CellTallies nD τ sig Unit) g u) : k < 15 ∧ ∃ j, g = f j := by
  rw [Finset.sum_apply, Finsupp.finset_sum_apply] at h
  obtain ⟨j, hj, h⟩ := Finset.exists_ne_zero_of_sum_ne_zero (Nat.pos_iff_ne_zero.mp h)
  have hj := Finset.mem_Ico.mp hj
  refine ⟨by omega, j, ?_⟩
  by_contra hn
  rw [tallyAt_apply, if_neg fun h' => hn h'.1] at h
  exact h rfl

/-- A cell at which a device owes something is a barrier, a receive semaphore, or one of the finished chunks, and of a kind that it has not yet finished. -/
theorem owed_pos {c : Dev nD} {ka kv kb : ℕ} {g : GSem nD τ sig} {u : Unit} (h : 0 < owed c ka kv kb g u) :
    (ka < 15 ∧ ∃ j, g = agC (peer c j) c) ∨ (kv < 15 ∧ ∃ j, g = recvC (tgt c j) c) ∨ (kb < 15 ∧ ∃ j, g = barC (peer c j)) := by
  unfold owed at h
  rw [Pi.add_apply, Finsupp.add_apply, Pi.add_apply, Finsupp.add_apply] at h
  rcases Nat.eq_zero_or_pos (OA c ka g u) with h₁ | h₁
  · rcases Nat.eq_zero_or_pos (OV c kv g u) with h₂ | h₂
    · rw [h₁, h₂, Nat.add_zero, Nat.zero_add] at h
      exact .inr (.inr (tallies_pos h))
    · exact .inr (.inl (tallies_pos h₂))
  · exact .inl (tallies_pos h₁)

/-! ## The levels -/

/-- Every semaphore of a device's core has one purpose. -/
def L (g : GSem nD τ sig) : Finset Unit := if g.1.2 = .tc then {()} else ∅

/-- How late a semaphore is waited for: leaving copies first, then the barrier, the partial chunks, the finished chunks. -/
def lvOf : Use → ℕ
  | .none => 0 | .send _ => 0 | .bar => 1 | .recv _ => 2 | .ag _ => 3
/-- The order of the waits: what is waited for first is lowest. -/
def lv (g : GSem nD τ sig) (_ : Unit) : ℕ := lvOf (useOf g.2)

/-- Other processors have no semaphores here. -/
theorem L_of_ne (g : GSem nD τ sig) (h : g.1.2 ≠ .tc) : L g = ∅ := if_neg h
/-- The core has. -/
theorem L_tc (c : Dev nD) (sm : SemLoc sig) : L ((c : Thread nD τ), sm) = {()} := if_pos rfl

/-- A device may wait on a semaphore below all it still owes. -/
theorem mayWait (c : Dev nD) (sm : SemLoc sig) (ka kv kb : ℕ) (ha : ka < 15 → lvOf (useOf sm) < 3) (hv : kv < 15 → lvOf (useOf sm) < 2)
    (hb : kb < 15 → lvOf (useOf sm) < 1) : (levAts L lv : sProp 𝕄) ⊢ MayWait (c : Thread nD τ) sm () (owed c ka kv kb) :=
  MayOwe.of_cut (L := L) (lev := lv) (lvOf (useOf sm)) (fun p hp => by rw [Finset.mem_singleton.mp hp, L_tc]; exact Finset.mem_singleton_self _)
    (fun g u hg => by rcases owed_pos hg with ⟨-, j, rfl⟩ | ⟨-, j, rfl⟩ | ⟨-, j, rfl⟩ <;> exact Finset.mem_singleton_self _)
    (fun p hp => by rw [Finset.mem_singleton.mp hp]; exact le_refl _)
    (fun g u hg => by
      rcases owed_pos hg with ⟨h, j, rfl⟩ | ⟨h, j, rfl⟩ | ⟨h, j, rfl⟩
      · show _ < lvOf (useOf (.dma (agS c))); rw [useOf_ag]; exact ha h
      · show _ < lvOf (useOf (.dma (recvS c))); rw [useOf_recv]; exact hv h
      · exact hb h)

/-! ## The records of the semaphores -/

/-- The kernel's own semaphores of a device: the three arrays. -/
def osem (k : Fin 3 × Dev nD) : SemLoc sig := match k with
  | (0, p) => .dma (sendS p)
  | (1, p) => .dma (recvS p)
  | (2, p) => .dma (agS p)
/-- All that it uses: the barrier besides. -/
def csem (k : Unit ⊕ Fin 3 × Dev nD) : SemLoc sig := match k with
  | .inl _ => .reg barS
  | .inr k => osem k
/-- The cells of all devices, numbered. -/
abbrev kcell (ck : Dev nD × (Unit ⊕ Fin 3 × Dev nD)) : GSem nD τ sig := ((ck.1 : Thread nD τ), csem ck.2)

/-- What everyone knows of a semaphore: that its schedule is kept, and that its first round has begun. -/
def known (g : GSem nD τ sig) : sProp 𝕄 := iprop((∃ κ, cellInv ER (Rd m) κ g) ∗ reached ER g 0)

/-- A cell's record can be used again and again; -/
instance known_persistent (g : GSem nD τ sig) : BI.Persistent (known m g) := by unfold known; infer_instance

/-- What everyone knows of all of them, and of the levels. -/
def records : sProp 𝕄 := iprop((bigSep Finset.univ fun ck : Dev nD × (Unit ⊕ Fin 3 × Dev nD) => known m (kcell ck)) ∗ (levAts L lv : sProp 𝕄))

/-- so can all the records. -/
instance records_persistent : BI.Persistent (records m) := by unfold records; infer_instance

/-- Among the records is the order of the waits. -/
theorem records_lev : records m ⊢ (levAts L lv : sProp 𝕄) := by unfold records; iintro ⟨-, H⟩; iexact H

/-- Among them is the record of each cell: -/
theorem records_known (c : Dev nD) (k : Unit ⊕ Fin 3 × Dev nD) {g : GSem nD τ sig} (h : kcell (c, k) = g) : records m ⊢ known m g := by
  subst h
  unfold records
  iintro ⟨H, -⟩
  have e : (bigSep Finset.univ fun ck : Dev nD × (Unit ⊕ Fin 3 × Dev nD) => known m (kcell ck)) ⊢ known m (kcell (c, k)) := bigSep_elim (Finset.mem_univ (c, k))
  iapply e $$ H

/-- of the barrier, -/
theorem records_bar (c : Dev nD) : records m ⊢ known m (barC c) := records_known m c (.inl ()) rfl
/-- of the send semaphores, -/
theorem records_send (c p : Dev nD) : records m ⊢ known m (sendC c p) := records_known m c (.inr (0, p)) rfl
/-- of the receive semaphores, -/
theorem records_recv (c p : Dev nD) : records m ⊢ known m (recvC c p) := records_known m c (.inr (1, p)) rfl
/-- and of those of the finished chunks. -/
theorem records_ag (c p : Dev nD) : records m ⊢ known m (agC c p) := records_known m c (.inr (2, p)) rfl

end Cert.Mlp

end
-- ==== Proof.Steps.lean ====
/-
# One step at a time

A rule for each kind of step that a device takes towards the others: a unit of a barrier, the wait for all units, a copy of a
partial chunk, the wait for one, a copy of the finished chunk, the wait for one, and the waits for the copies that left. Each
rule is stated for the `k`-th such step of any device, and moves one member of a family of resources from the
steps still to come (`pend`) to the steps behind (`past`).
-/
module

public import proofs.«01_k».proof.Proof.Protocol

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Families of steps -/

/-- The members from the `k`-th on, of `n`. -/
def pend (n : ℕ) (Φ : ℕ → sProp 𝕄) (k : ℕ) : sProp 𝕄 := bigSep (Finset.Ico k n) Φ
/-- The first `k` members. -/
def past (Φ : ℕ → sProp 𝕄) (k : ℕ) : sProp 𝕄 := bigSep (Finset.range k) Φ

/-- What is pending from turn `k` on is that of turn `k` and the rest. -/
theorem pend_peel {n : ℕ} (Φ : ℕ → sProp 𝕄) {k : ℕ} (hk : k < n) : pend n Φ k = iprop(Φ k ∗ pend n Φ (k + 1)) := by
  unfold pend
  rw [show Finset.Ico k n = insert k (Finset.Ico (k + 1) n) from by ext j; simp only [Finset.mem_insert, Finset.mem_Ico]; omega]
  exact bigSep_insert (by rw [Finset.mem_Ico]; omega)
/-- Before the first turn all is pending. -/
theorem pend_zero (n : ℕ) (Φ : ℕ → sProp 𝕄) : pend n Φ 0 = past Φ n := by
  unfold pend past; rw [Nat.Ico_zero_eq_range]
/-- After the last turn nothing is pending. -/
theorem pend_end (n : ℕ) (Φ : ℕ → sProp 𝕄) : pend n Φ n = iprop(emp) := by unfold pend; rw [Finset.Ico_self]; exact bigSep_empty
/-- Before the first turn nothing is past. -/
theorem past_zero (Φ : ℕ → sProp 𝕄) : past Φ 0 = iprop(emp) := by unfold past; rw [Finset.range_zero]; exact bigSep_empty
/-- A turn adds its own to what is past. -/
theorem past_snoc (Φ : ℕ → sProp 𝕄) (k : ℕ) : past Φ (k + 1) = iprop(Φ k ∗ past Φ k) := by
  unfold past; rw [Finset.range_add_one]; exact bigSep_insert Finset.notMem_range_self

/-! ## What a device owes, with the waits it has made -/

/-- What device `c` still owes after so many second sends, first sends and signals. -/
def own (c : Dev nD) (ka kv kb : ℕ) : sProp 𝕄 := iprop(∃ W, owes (c : Thread nD τ) (owed c ka kv kb) W)

/-- A program of device `c`, run to its end. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The semaphores, as the kernel takes them -/

/-- A send semaphore, at the offset that the kernel computes; -/
theorem sem_send {o : Fin 1 → ℕ} {h} {p : Dev nD} (e : o = ![p.val]) : semAt cc0_scratch3 o h = sendS p := by subst e; exact semAt_send p h
/-- a receive semaphore; -/
theorem sem_recv {o : Fin 1 → ℕ} {h} {p : Dev nD} (e : o = ![p.val]) : semAt cc0_scratch4 o h = recvS p := by subst e; exact semAt_recv p h
/-- and one of the finished chunks. -/
theorem sem_ag {o : Fin 1 → ℕ} {h} {p : Dev nD} (e : o = ![p.val]) : semAt cc0_scratch5 o h = agS p := by subst e; exact semAt_ag p h

/-! ## Every copy of a chunk counts the same -/

/-- A slot of the receive buffer counts as a chunk; -/
theorem credit_rs (o : Fin 3 → ℕ) (i) :
    ((rsM.slice (Rect.unit (s := S16x64x1024) o S1x64x1024.size i) (fun _ => rfl)).squeeze S64x1024 squeezes_S1x64x1024_S64x1024).view.dmaCredit = N := rfl
/-- so does a slot of the partial products; -/
theorem credit_st (o : Fin 3 → ℕ) (i) :
    ((stM.slice (Rect.unit (s := S16x64x1024) o S1x64x1024.size i) (fun _ => rfl)).squeeze S64x1024 squeezes_S1x64x1024_S64x1024).view.dmaCredit = N := rfl
/-- and so do a chunk's rows of the result. -/
theorem credit_out (o : Fin 2 → ℕ) (i) : (oM.slice (Rect.unit (s := S1024x1024) o S64x1024.size i) (fun _ => rfl)).view.dmaCredit = N := rfl

/-- The wait for a copy of a chunk, by the amount that every such copy counts. -/
theorem wait_eq (c : Dev nD) {q : DmaSem sig} {sp sp' : Space} {s' : Shape} {e' : EltTy} {src : Memref sig .tc sp' s' e'}
    {dst : Memref sig .tc sp S64x1024 .bf16} {hsrc : src.view.WordExact} {hdst : dst.view.WordExact} (h : dst.view.dmaCredit = N) (K : PUnit → sProp (MT nD τ sig Unit (Elt F) ℕ UU ℕ)) :
    wpE (defs₀ (F := F)) 𝒱₀ (c : Thread nD τ) none Set.univ (.waitDma2 q src dst hsrc hdst) K = waitSpec (c : Thread nD τ) Set.univ (.dma q) N K :=
  h ▸ wpE_waitDma2_eq 𝒱₀ (c : Thread nD τ) none Set.univ K

section
variable (c : Dev nD) {α : Type} {Q : α → sProp (MT nD τ sig Unit (Elt F) ℕ UU ℕ)} {k : PUnit → Prog (TpuEff nD τ sig (Elt F) Λ₀ .tc) α}

/-! ## The barrier -/

/-- What the `j`-th unit of a barrier needs: its token, and the places of `c` that its receiver will write. -/
def sigItem (j : ℕ) : sProp 𝕄 :=
  iprop(dutyTok ER (barC (peer c j)) 0 c ∗ (∃ f, rsPts (F := F) c (peer c j) f) ∗ ∃ f, outPts (F := F) c (peer c j) f)

/-- One unit of the barrier of the `j`-th other device. -/
theorem step_signal {j : ℕ} (hj : j < 15) {n : Dev nD} (hn : n = peer c j) :
    iprop(records m ∗ own c 0 0 j ∗ pend 15 (sigItem c) j)
      ⊢ iprop((own c 0 0 (j + 1) ∗ pend 15 (sigItem (F := F) c) (j + 1) -∗ run c (k ⟨⟩) Q)
          -∗ run c (.op (.semSignal (n : Thread nD τ) barS (1#32 : BitVec 32).toInt) k) Q) := by
  subst hn
  rw [pend_peel _ hj]
  unfold sigItem own
  iintro ⟨#HR, ⟨%W, HO⟩, ⟨Ht, Hrs, Hout⟩, Hp⟩ Hk
  ihave HB := (records_bar m (peer c j)) $$ HR
  unfold known
  icases HB with ⟨⟨%κ, #HI⟩, #Hr⟩
  iapply (Rounds.wp_signal 𝒱₀ ER (Rd m) (c : Thread nD τ) none (dst := (peer c j : Thread nD τ)) (κ := κ)
      (d := c) (by rw [duties_bar]; exact mem_others.mpr (peer_ne c hj).symm) ((amount_bar m (peer c j) c 0).trans (by decide)) () _ (owed_bar c 0 0 hj))
    $$ [HO Ht Hrs Hout]
  · isplitr; · iexact HI
    isplitl [HO]; · iexact HO
    isplitl [Ht]; · iexact Ht
    isplitl [Hrs Hout]
    · rw [payload_bar]; isplitl [Hrs] <;> iassumption
    iexact Hr
  iintro HO
  iapply Hk
  isplitl [HO]; · iexists W; iexact HO
  iexact Hp

/-- The wait for the fifteen units of its own barrier. -/
theorem step_barrier :
    iprop(records m ∗ own c 0 0 15 ∗ cred (tallyAt (barC c) () 15) ∗ atPos ER (barC c) 0 ∅ 0)
      ⊢ iprop((own c 0 0 15 ∗ atPos ER (barC c) 1 ∅ 0 ∗ pend 15 (fun s => iprop(∃ f, rsPts (F := F) (tgt c s) c f)) 0
            ∗ pend 15 (fun j => iprop(∃ f, outPts (F := F) (peer c j) c f)) 0 -∗ run c (k ⟨⟩) Q)
          -∗ run c (.op (.semWait barS (15#32 : BitVec 32).toInt) k) Q) := by
  unfold own
  have hw := mayWait (F := F) c (.reg barS) 0 0 15 (fun _ => show 1 < 3 by omega) (fun _ => show 1 < 2 by omega) (fun h => by omega)
  iintro ⟨#HR, ⟨%W, HO⟩, Hc, Ha⟩ Hk
  ihave #HL := (records_lev m) $$ HR
  ihave HB := (records_bar m c) $$ HR
  unfold known
  icases HB with ⟨⟨%κ, #HI⟩, #Hr⟩
  iapply (Rounds.wp_wait_rest_token 𝒱₀ ER (Rd m) (c : Thread nD τ) none (κ := κ)
      (wpE_semWait_eq 𝒱₀ (c : Thread nD τ) none Set.univ) (Set.mem_univ _) () (O := owed c 0 0 15) (W := W) (R := 0) (m := 0) (T := ∅)
      (by rw [expect_bar]; decide)) $$ [HO Hc Ha]
  · isplitr; · iexact HI
    isplitl [Hc]; · iexact Hc
    isplitl [HO]; · iexact HO
    isplitr
    · iapply hw; iexact HL
    iexact Ha
  iintro ⟨HO, Ha, -, Hp⟩
  ihave Hp := (Entails.of_eq ((rest_bar m c).trans (bigSep_sep' _ _ _))) $$ Hp
  icases Hp with ⟨Hrs, Hout⟩
  iapply Hk
  isplitl [HO]; · iexists (insert (SemLoc.reg barS, ()) W); iexact HO
  isplitl [Ha]; · iexact Ha
  isplitl [Hrs]
  · iapply (Entails.of_eq (by rw [pend_zero, ← tgt_image c]; exact bigSep_image_of_injOn (tgt_inj c) _)) $$ Hrs
  · iapply (Entails.of_eq (by rw [pend_zero, ← peer_image c]; exact bigSep_image_of_injOn (peer_inj c) _)) $$ Hout

/-! ## Partial chunks -/

/-- What the `s`-th copy of a partial chunk needs besides the chunk: the slot it goes to, and the tokens of its two ends. -/
def partItem (s : ℕ) : sProp 𝕄 :=
  iprop((∃ f, rsPts (F := F) (tgt c s) c f) ∗ dutyTok ER (recvC (tgt c s) c) 0 c ∗ dutyTok ER (sendC c (tgt c s)) 0 (tgt c s))
/-- What it leaves: the credit to wait for its departure. -/
def partSent (s : ℕ) : sProp 𝕄 := cred (tallyAt (sendC c (tgt c s)) () N)

/-- The `s`-th copy of a partial chunk. -/
theorem step_part {s : ℕ} (hs : s < 15) {n : Dev nD} (hn : n = tgt c s) {q₁ q₂ : DmaSem sig} (h₁ : q₁ = sendS (tgt c s)) (h₂ : q₂ = recvS c)
    {o₃ : Fin 3 → ℕ} {i₃} (h₃ : o₃ = ![c.val, 0, 0]) {o₄ : Fin 3 → ℕ} {i₄} (h₄ : o₄ = ![(tgt c s).val, 0, 0])
    {hsc : (((rsM : Memref sig (Dev.tc n : Thread nD τ).2.kind .vmem S16x64x1024 .bf16).slice (Rect.unit (s := S16x64x1024) o₃ S1x64x1024.size i₃) (fun _ => rfl)).squeeze S64x1024 squeezes_S1x64x1024_S64x1024).view.ref.isScScratch = false}
    {hsrc : ((stM.slice (Rect.unit (s := S16x64x1024) o₄ S1x64x1024.size i₄) (fun _ => rfl)).squeeze S64x1024 squeezes_S1x64x1024_S64x1024).view.WordExact}
    {hdst : (((rsM : Memref sig (Dev.tc n : Thread nD τ).2.kind .vmem S16x64x1024 .bf16).slice (Rect.unit (s := S16x64x1024) o₃ S1x64x1024.size i₃) (fun _ => rfl)).squeeze S64x1024 squeezes_S1x64x1024_S64x1024).view.WordExact}
    {hsem : DmaTarget.Typed .vmem (.dma q₂) (.remote (Dev.tc n : Thread nD τ) (((rsM : Memref sig (Dev.tc n : Thread nD τ).2.kind .vmem S16x64x1024 .bf16).slice (Rect.unit (s := S16x64x1024) o₃ S1x64x1024.size i₃) (fun _ => rfl)).squeeze S64x1024 squeezes_S1x64x1024_S64x1024) (.dma q₁) hsc)} :
    iprop(records m ∗ own c 0 s 15 ∗ stPts c (tgt c s) (stageFull m c) ∗ pend 15 (partItem c) s ∗ past (partSent c) s)
      ⊢ iprop((own c 0 (s + 1) 15 ∗ pend 15 (partItem (F := F) c) (s + 1) ∗ past (partSent (F := F) c) (s + 1) -∗ run c (k ⟨⟩) Q)
          -∗ run c (.op (.enqueueDma ((stM.slice (Rect.unit (s := S16x64x1024) o₄ S1x64x1024.size i₄) (fun _ => rfl)).squeeze S64x1024 squeezes_S1x64x1024_S64x1024)
              (.remote (Dev.tc n : Thread nD τ) ((rsM.slice (Rect.unit (s := S16x64x1024) o₃ S1x64x1024.size i₃) (fun _ => rfl)).squeeze S64x1024 squeezes_S1x64x1024_S64x1024) (.dma q₁) hsc)
              (.dma q₂) hsrc hdst hsem) k) Q) := by
  subst hn h₁ h₂ h₃ h₄
  rw [pend_peel _ hs, past_snoc]
  unfold partItem own
  iintro ⟨#HR, ⟨%W, HO⟩, Hst, ⟨⟨⟨%fd, Hrs⟩, Ht₂, Ht₁⟩, Hp⟩, Hd⟩ Hk
  ihave HA := (records_send m c (tgt c s)) $$ HR
  ihave HB := (records_recv m (tgt c s) c) $$ HR
  unfold known
  icases HA with ⟨⟨%κ₁, #HI₁⟩, #Hr₁⟩
  icases HB with ⟨⟨%κ₂, #HI₂⟩, #Hr₂⟩
  iapply (Rounds.wp_send_pointsTo 𝒱₀ ER (Rd m) (c : Thread nD τ) none (κ₁ := κ₁) (κ₂ := κ₂) (c' := (tgt c s : Thread nD τ))
    (sS := .dma (sendS (tgt c s))) (sem := .dma (recvS c)) (src := slotM stM (tgt c s)) (dst := slotM rsM c) (q := fullShare) (fs := stageFull m c)
    (r₁ := 0) (r₂ := 0) (d₁ := tgt c s) (d₂ := c) (fd := fd)
    (by rw [duties_send m c _ (tgt_ne c hs) (by decide)]; exact Finset.mem_singleton_self _)
    (by rw [duties_recv m _ _ (tgt_ne c hs).symm]; exact Finset.mem_singleton_self _)
    () () N rfl (amount_send m c _ _ 0) (amount_recv m _ c _ 0) _ (owed_recv c 0 15 hs) (W := W)
    (by rw [payload_send0]; unfold stPts; rw [st_set])
    (by
      rw [payload_recv]; unfold rsPts; rw [rs_set]
      exact (Entails.of_eq (pointsTo_congr fun i hi => landed_rs m c (tgt c s) fd i hi)))) $$ [HO Hst Hrs Ht₁ Ht₂]
  · isplitr; · iexact HI₁
    isplitr; · iexact HI₂
    isplitl [Hst]; · unfold stPts; rw [st_set]; iexact Hst
    isplitl [Hrs]; · unfold rsPts; rw [rs_set]; iexact Hrs
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  isplitl [Hp]; · iexact Hp
  isplitl [Hc]; · unfold partSent; iexact Hc
  iexact Hd

/-- What the wait for the partial chunk of the `j`-th other device needs. -/
def recvItem (j : ℕ) : sProp 𝕄 := iprop(cred (tallyAt (recvC c (peer c j)) () N) ∗ atPos ER (recvC c (peer c j)) 0 ∅ 0)
/-- What it brings. -/
def recvGot (j : ℕ) : sProp 𝕄 := iprop(rsPts c (peer c j) (rsFull m c) ∗ atPos ER (recvC c (peer c j)) 1 ∅ 0)

/-- The wait for the partial chunk of the `j`-th other device. -/
theorem step_recv {j : ℕ} (hj : j < 15) {q : DmaSem sig} (h : q = recvS (peer c j)) {sp : Space} {src : Memref sig .tc sp S64x1024 .bf16}
    {o : Fin 3 → ℕ} {i} {hsrc} {hdst} :
    iprop(records m ∗ own c 0 15 15 ∗ pend 15 (recvItem c) j ∗ past (recvGot m c) j)
      ⊢ iprop((own c 0 15 15 ∗ pend 15 (recvItem (F := F) c) (j + 1) ∗ past (recvGot m c) (j + 1) -∗ run c (k ⟨⟩) Q)
          -∗ run c (.op (.waitDma2 q src ((rsM.slice (Rect.unit (s := S16x64x1024) o S1x64x1024.size i) (fun _ => rfl)).squeeze S64x1024 squeezes_S1x64x1024_S64x1024) hsrc hdst) k) Q) := by
  subst h
  have hne := peer_ne c hj
  have hw := mayWait (F := F) c (.dma (recvS (peer c j))) 0 15 15 (fun _ => by rw [useOf_recv]; exact show 2 < 3 by omega) (fun h => by omega) (fun h => by omega)
  rw [pend_peel _ hj, past_snoc]
  unfold recvItem recvGot own
  iintro ⟨#HR, ⟨%W, HO⟩, ⟨⟨Hc, Ha⟩, Hp⟩, Hd⟩ Hk
  ihave #HL := (records_lev m) $$ HR
  ihave HB := (records_recv m c (peer c j)) $$ HR
  unfold known
  icases HB with ⟨⟨%κ, #HI⟩, #Hr⟩
  iapply (Rounds.wp_wait_rest_token 𝒱₀ ER (Rd m) (c : Thread nD τ) none (κ := κ)
      (wait_eq c (credit_rs o i)) (Set.mem_univ _) () (O := owed c 0 15 15) (W := W) (R := 0) (m := 0) (T := ∅)
      ((Nat.zero_add _).trans (expect_recv m c _ hne).symm)) $$ [HO Hc Ha]
  · isplitr; · iexact HI
    isplitl [Hc]; · iexact Hc
    isplitl [HO]; · iexact HO
    isplitr; · iapply hw; iexact HL
    iexact Ha
  iintro ⟨HO, Ha, -, Hg⟩
  ihave Hg := (Entails.of_eq (rest_recv m c _ hne)) $$ Hg
  iapply Hk
  isplitl [HO]; · iexists _; iexact HO
  isplitl [Hp]; · iexact Hp
  isplitl [Hg Ha]; · isplitl [Hg] <;> iassumption
  iexact Hd

/-- What the first wait for the departures towards the `j`-th other device needs. -/
def leftItem (j : ℕ) : sProp 𝕄 := iprop(cred (tallyAt (sendC c (peer c j)) () N) ∗ atPos ER (sendC c (peer c j)) 0 ∅ 0)
/-- What it brings: the partial chunk is `c`'s again. -/
def leftGot (j : ℕ) : sProp 𝕄 :=
  iprop(stPts c (peer c j) (stageFull m c) ∗ atPos ER (sendC c (peer c j)) 1 ∅ 0 ∗ reached ER (sendC c (peer c j)) 1)

/-- The wait for the departure of the partial chunk towards the `j`-th other device. -/
theorem step_left {j : ℕ} (hj : j < 15) {q : DmaSem sig} (h : q = sendS (peer c j)) {sp : Space} {src : Memref sig .tc sp S64x1024 .bf16}
    {o : Fin 3 → ℕ} {i} {hsrc} {hdst} :
    iprop(records m ∗ own c 0 15 15 ∗ pend 15 (leftItem c) j ∗ past (leftGot m c) j)
      ⊢ iprop((own c 0 15 15 ∗ pend 15 (leftItem (F := F) c) (j + 1) ∗ past (leftGot m c) (j + 1) -∗ run c (k ⟨⟩) Q)
          -∗ run c (.op (.waitDma2 q src ((stM.slice (Rect.unit (s := S16x64x1024) o S1x64x1024.size i) (fun _ => rfl)).squeeze S64x1024 squeezes_S1x64x1024_S64x1024) hsrc hdst) k) Q) := by
  subst h
  have hne := peer_ne c hj
  have hw := mayWait (F := F) c (.dma (sendS (peer c j))) 0 15 15 (fun _ => by rw [useOf_send]; exact show 0 < 3 by omega) (fun h => by omega) (fun h => by omega)
  rw [pend_peel _ hj, past_snoc]
  unfold leftItem leftGot own
  iintro ⟨#HR, ⟨%W, HO⟩, ⟨⟨Hc, Ha⟩, Hp⟩, Hd⟩ Hk
  ihave #HL := (records_lev m) $$ HR
  ihave HB := (records_send m c (peer c j)) $$ HR
  unfold known
  icases HB with ⟨⟨%κ, #HI⟩, #Hr⟩
  iapply (Rounds.wp_wait_rest_token 𝒱₀ ER (Rd m) (c : Thread nD τ) none (κ := κ)
      (wait_eq c (credit_st o i)) (Set.mem_univ _) () (O := owed c 0 15 15) (W := W) (R := 0) (m := 0) (T := ∅)
      ((Nat.zero_add _).trans (expect_send m c _ hne (by decide)).symm)) $$ [HO Hc Ha]
  · isplitr; · iexact HI
    isplitl [Hc]; · iexact Hc
    isplitl [HO]; · iexact HO
    isplitr; · iapply hw; iexact HL
    iexact Ha
  iintro ⟨HO, Ha, Hr', Hg⟩
  ihave Hg := (Entails.of_eq (rest_send0 m c _ hne)) $$ Hg
  iapply Hk
  isplitl [HO]; · iexists _; iexact HO
  isplitl [Hp]; · iexact Hp
  isplitl [Hg Ha Hr']
  · isplitl [Hg]; · iexact Hg
    isplitl [Ha]; · iexact Ha
    iexact Hr'
  iexact Hd

/-! ## Finished chunks -/

/-- What the copy of the finished chunk to the `j`-th other device needs. -/
def fullItem (j : ℕ) : sProp 𝕄 :=
  iprop(agPts c (peer c j) (agVal m c) ∗ (∃ f, outPts (F := F) (peer c j) c f) ∗ dutyTok ER (agC (peer c j) c) 0 c
    ∗ dutyTok ER (sendC c (peer c j)) 1 (peer c j) ∗ reached ER (sendC c (peer c j)) 1)
/-- What it leaves: the credit to wait for its departure. -/
def fullSent (j : ℕ) : sProp 𝕄 := cred (tallyAt (sendC c (peer c j)) () N)

/-- The copy of the finished chunk to the `j`-th other device. -/
theorem step_full {j : ℕ} (hj : j < 15) {n : Dev nD} (hn : n = peer c j) {q₁ q₂ : DmaSem sig} (h₁ : q₁ = sendS (peer c j)) (h₂ : q₂ = agS c)
    {o : Fin 2 → ℕ} {i} (h : o = ![64 * c.val, 0])
    {hsc : ((oM : Memref sig (Dev.tc n : Thread nD τ).2.kind .vmem S1024x1024 .bf16).slice (Rect.unit (s := S1024x1024) o S64x1024.size i) (fun _ => rfl)).view.ref.isScScratch = false}
    {hsrc : (agM : Memref sig .tc .vmem S64x1024 .bf16).view.WordExact}
    {hdst : ((oM : Memref sig (Dev.tc n : Thread nD τ).2.kind .vmem S1024x1024 .bf16).slice (Rect.unit (s := S1024x1024) o S64x1024.size i) (fun _ => rfl)).view.WordExact}
    {hsem : DmaTarget.Typed .vmem (.dma q₂) (.remote (Dev.tc n : Thread nD τ) ((oM : Memref sig (Dev.tc n : Thread nD τ).2.kind .vmem S1024x1024 .bf16).slice (Rect.unit (s := S1024x1024) o S64x1024.size i) (fun _ => rfl)) (.dma q₁) hsc)} :
    iprop(records m ∗ own c j 15 15 ∗ pend 15 (fullItem m c) j ∗ past (fullSent c) j)
      ⊢ iprop((own c (j + 1) 15 15 ∗ pend 15 (fullItem m c) (j + 1) ∗ past (fullSent (F := F) c) (j + 1) -∗ run c (k ⟨⟩) Q)
          -∗ run c (.op (.enqueueDma agM (.remote (Dev.tc n : Thread nD τ) (oM.slice (Rect.unit (s := S1024x1024) o S64x1024.size i) (fun _ => rfl)) (.dma q₁) hsc)
              (.dma q₂) hsrc hdst hsem) k) Q) := by
  subst hn h₁ h₂ h
  rw [pend_peel _ hj, past_snoc]
  unfold fullItem own
  iintro ⟨#HR, ⟨%W, HO⟩, ⟨⟨Hag, ⟨%fd, Hout⟩, Ht₂, Ht₁, #Hr⟩, Hp⟩, Hd⟩ Hk
  ihave HA := (records_send m c (peer c j)) $$ HR
  ihave HB := (records_ag m (peer c j) c) $$ HR
  unfold known
  icases HA with ⟨⟨%κ₁, #HI₁⟩, -⟩
  icases HB with ⟨⟨%κ₂, #HI₂⟩, #Hr₂⟩
  iapply (Rounds.wp_send_pointsTo 𝒱₀ ER (Rd m) (c : Thread nD τ) none (κ₁ := κ₁) (κ₂ := κ₂) (c' := (peer c j : Thread nD τ))
    (sS := .dma (sendS (peer c j))) (sem := .dma (agS c)) (src := agM) (dst := rowM c) (q := ShareLeaves.leaf 4 fullShare (peer c j)) (fs := agVal m c)
    (r₁ := 1) (r₂ := 0) (d₁ := peer c j) (d₂ := c) (fd := fd)
    (by rw [duties_send m c _ (peer_ne c hj) (by decide)]; exact Finset.mem_singleton_self _)
    (by rw [duties_ag m _ _ (peer_ne c hj).symm]; exact Finset.mem_singleton_self _)
    () () N rfl (amount_send m c _ _ 1) (amount_ag m _ c _ 0) _ (owed_ag c 15 15 hj) (W := W)
    (by rw [payload_send1]; unfold agPts; rw [View.set_whole])
    (by
      rw [payload_ag]; unfold outPts; rw [row_set, View.read_whole]
      exact (Entails.of_eq (pointsTo_congr fun i hi => landed_out m c fd i hi)))) $$ [HO Hag Hout Ht₁ Ht₂]
  · isplitr; · iexact HI₁
    isplitr; · iexact HI₂
    isplitl [Hag]; · unfold agPts; rw [View.set_whole]; iexact Hag
    isplitl [Hout]; · unfold outPts; rw [row_set]; iexact Hout
    isplitl [HO]; · iexact HO
    isplitl [Ht₁]; · iexact Ht₁
    isplitr; · iexact Hr
    isplitl [Ht₂]; · iexact Ht₂
    iexact Hr₂
  iintro ⟨Hc, HO⟩
  iapply Hk
  isplitl [HO]; · iexists W; iexact HO
  isplitl [Hp]; · iexact Hp
  isplitl [Hc]; · unfold fullSent; iexact Hc
  iexact Hd

/-- What the wait for the finished chunk of the `j`-th other device needs. -/
def agItem (j : ℕ) : sProp 𝕄 := iprop(cred (tallyAt (agC c (peer c j)) () N) ∗ atPos ER (agC c (peer c j)) 0 ∅ 0)
/-- What it brings. -/
def agGot (j : ℕ) : sProp 𝕄 := iprop(outPts c (peer c j) (outFull m) ∗ atPos ER (agC c (peer c j)) 1 ∅ 0)

/-- The wait for the finished chunk of the `j`-th other device. -/
theorem step_ag {j : ℕ} (hj : j < 15) {q : DmaSem sig} (h : q = agS (peer c j)) {sp : Space} {src : Memref sig .tc sp S64x1024 .bf16}
    {o : Fin 2 → ℕ} {i} {hsrc} {hdst} :
    iprop(records m ∗ own c 15 15 15 ∗ pend 15 (agItem c) j ∗ past (agGot m c) j)
      ⊢ iprop((own c 15 15 15 ∗ pend 15 (agItem (F := F) c) (j + 1) ∗ past (agGot m c) (j + 1) -∗ run c (k ⟨⟩) Q)
          -∗ run c (.op (.waitDma2 q src (oM.slice (Rect.unit (s := S1024x1024) o S64x1024.size i) (fun _ => rfl)) hsrc hdst) k) Q) := by
  subst h
  have hne := peer_ne c hj
  have hw := mayWait (F := F) c (.dma (agS (peer c j))) 15 15 15 (fun h => by omega) (fun h => by omega) (fun h => by omega)
  rw [pend_peel _ hj, past_snoc]
  unfold agItem agGot own
  iintro ⟨#HR, ⟨%W, HO⟩, ⟨⟨Hc, Ha⟩, Hp⟩, Hd⟩ Hk
  ihave #HL := (records_lev m) $$ HR
  ihave HB := (records_ag m c (peer c j)) $$ HR
  unfold known
  icases HB with ⟨⟨%κ, #HI⟩, #Hr⟩
  iapply (Rounds.wp_wait_rest_token 𝒱₀ ER (Rd m) (c : Thread nD τ) none (κ := κ)
      (wait_eq c (credit_out o i)) (Set.mem_univ _) () (O := owed c 15 15 15) (W := W) (R := 0) (m := 0) (T := ∅)
      ((Nat.zero_add _).trans (expect_ag m c _ hne).symm)) $$ [HO Hc Ha]
  · isplitr; · iexact HI
    isplitl [Hc]; · iexact Hc
    isplitl [HO]; · iexact HO
    isplitr; · iapply hw; iexact HL
    iexact Ha
  iintro ⟨HO, Ha, -, Hg⟩
  ihave Hg := (Entails.of_eq (rest_ag m c _ hne)) $$ Hg
  iapply Hk
  isplitl [HO]; · iexists _; iexact HO
  isplitl [Hp]; · iexact Hp
  isplitl [Hg Ha]; · isplitl [Hg] <;> iassumption
  iexact Hd

/-- What the last wait for the departures towards the `j`-th other device needs. -/
def endItem (j : ℕ) : sProp 𝕄 := iprop(cred (tallyAt (sendC c (peer c j)) () N) ∗ atPos ER (sendC c (peer c j)) 1 ∅ 0)
/-- What it brings. -/
def endGot (j : ℕ) : sProp 𝕄 := iprop(agPts c (peer c j) (agVal m c) ∗ atPos ER (sendC c (peer c j)) 2 ∅ 0)

/-- The wait for the departure of the finished chunk towards the `j`-th other device. -/
theorem step_end {j : ℕ} (hj : j < 15) {q : DmaSem sig} (h : q = sendS (peer c j)) {sp : Space} {s' : Shape} {e' : EltTy} {src : Memref sig .tc sp s' e'} {hsrc} {hdst} :
    iprop(records m ∗ own c 15 15 15 ∗ pend 15 (endItem c) j ∗ past (endGot m c) j)
      ⊢ iprop((own c 15 15 15 ∗ pend 15 (endItem (F := F) c) (j + 1) ∗ past (endGot m c) (j + 1) -∗ run c (k ⟨⟩) Q)
          -∗ run c (.op (.waitDma2 q src agM hsrc hdst) k) Q) := by
  subst h
  have hne := peer_ne c hj
  have hw := mayWait (F := F) c (.dma (sendS (peer c j))) 15 15 15 (fun h => by omega) (fun h => by omega) (fun h => by omega)
  rw [pend_peel _ hj, past_snoc]
  unfold endItem endGot own
  iintro ⟨#HR, ⟨%W, HO⟩, ⟨⟨Hc, Ha⟩, Hp⟩, Hd⟩ Hk
  ihave #HL := (records_lev m) $$ HR
  ihave HB := (records_send m c (peer c j)) $$ HR
  unfold known
  icases HB with ⟨⟨%κ, #HI⟩, #Hr⟩
  iapply (Rounds.wp_wait_rest_token 𝒱₀ ER (Rd m) (c : Thread nD τ) none (κ := κ)
      (wait_eq c rfl) (Set.mem_univ _) () (O := owed c 15 15 15) (W := W) (R := 1) (m := 0) (T := ∅)
      ((Nat.zero_add _).trans (expect_send m c _ hne (by decide)).symm)) $$ [HO Hc Ha]
  · isplitr; · iexact HI
    isplitl [Hc]; · iexact Hc
    isplitl [HO]; · iexact HO
    isplitr; · iapply hw; iexact HL
    iexact Ha
  iintro ⟨HO, Ha, -, Hg⟩
  ihave Hg := (Entails.of_eq (rest_send1 m c _ hne)) $$ Hg
  iapply Hk
  isplitl [HO]; · iexists _; iexact HO
  isplitl [Hp]; · iexact Hp
  isplitl [Hg Ha]; · isplitl [Hg] <;> iassumption
  iexact Hd

end

end Cert.Mlp

end
-- ==== Proof.Local.lean ====
/-
# A device on its own

The steps of a device that touch only its own memory: the rows of `x` that a trip reads, the store of the trip's product into
its two slots, and the reads of the chunks that arrived. Before them the rule that puts a step in front of a program
with everything else left as it is.
-/
module

public import proofs.«01_k».proof.Proof.Steps

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## A step in front of a program, the rest of the resources untouched -/

/-- A step that turns `A` into `A'`. -/
theorem go1 {A A' P P' R : sProp (MT nD τ sig Unit (Elt F) ℕ UU ℕ)} (s : iprop(records m ∗ A) ⊢ iprop((A' -∗ P') -∗ P))
    (h : iprop(records m ∗ A' ∗ R) ⊢ P') : iprop(records m ∗ A ∗ R) ⊢ P := by
  iintro ⟨#HR, HA, HX⟩
  iapply s $$ [HA]
  · isplitr; · iexact HR
    iexact HA
  iintro HA
  iapply h
  isplitr; · iexact HR
  isplitl [HA] <;> iassumption

/-- A step that turns `A` and `B` into `A'` and `B'`. -/
theorem go2 {A B A' B' P P' R : sProp (MT nD τ sig Unit (Elt F) ℕ UU ℕ)} (s : iprop(records m ∗ A ∗ B) ⊢ iprop((A' ∗ B' -∗ P') -∗ P))
    (h : iprop(records m ∗ A' ∗ B' ∗ R) ⊢ P') : iprop(records m ∗ A ∗ B ∗ R) ⊢ P := by
  iintro ⟨#HR, HA, HB, HX⟩
  iapply s $$ [HA HB]
  · isplitr; · iexact HR
    isplitl [HA] <;> iassumption
  iintro ⟨HA, HB⟩
  iapply h
  isplitr; · iexact HR
  isplitl [HA]; · iexact HA
  isplitl [HB] <;> iassumption

/-- A step that turns `A`, `B` and `C` into `A'`, `B'` and `C'`. -/
theorem go3 {A B C A' B' C' P P' R : sProp (MT nD τ sig Unit (Elt F) ℕ UU ℕ)}
    (s : iprop(records m ∗ A ∗ B ∗ C) ⊢ iprop((A' ∗ B' ∗ C' -∗ P') -∗ P))
    (h : iprop(records m ∗ A' ∗ B' ∗ C' ∗ R) ⊢ P') : iprop(records m ∗ A ∗ B ∗ C ∗ R) ⊢ P := by
  iintro ⟨#HR, HA, HB, HC, HX⟩
  iapply s $$ [HA HB HC]
  · isplitr; · iexact HR
    isplitl [HA]; · iexact HA
    isplitl [HB] <;> iassumption
  iintro ⟨HA, HB, HC⟩
  iapply h
  isplitr; · iexact HR
  isplitl [HA]; · iexact HA
  isplitl [HB]; · iexact HB
  isplitl [HC] <;> iassumption

/-- The elements that a rectangle of a whole buffer names. -/
theorem whole_setOn (b : Ref sig .tc) (S : Finset b.ty.shape.Idx) : (Memref.whole b : Memref sig .tc _ _ _).view.setOn S = S := Finset.map_refl
/-- The elements that an access to a whole buffer touches are those of its rectangle. -/
theorem whole_access (b : Ref sig .tc) (r : Rect b.ty.shape) : ((Memref.whole b : Memref sig .tc _ _ _).access r).setOn Finset.univ = r.set :=
  View.set_slice_whole b r

section
variable (c : Dev nD) {α : Type} {Q : α → sProp (MT nD τ sig Unit (Elt F) ℕ UU ℕ)}

/-! ## The trips -/

/-- The two slots of a trip's group, not yet written. -/
def grpItem (i : ℕ) : sProp 𝕄 := iprop(∃ f : S16x64x1024.Idx → Elt F .bf16, ((c : Thread nD τ).loc cc0_scratch0) ↦[pairSet (grp c i)]{fullShare} f)
/-- The chunk that the `s`-th copy sends. -/
def stItem (s : ℕ) : sProp 𝕄 := stPts c (tgt c s) (stageFull m c)
/-- Device `c`'s copy of `x`. -/
def xPts : sProp 𝕄 := ((c : Thread nD τ).loc cc0_stg0_0) ↦[Finset.univ]{fullShare} xstg m c

/-- Device `c` between its trips: `i` of them are made, and `s` chunks sent of the `b` that are ready. -/
def mid (s i b : ℕ) : sProp 𝕄 := iprop(own c 0 s 15 ∗ xPts m c ∗ pend 8 (grpItem c) i ∗ pend b (stItem m c) s)

/-- A trip reads its rows of `x`. -/
theorem step_x {s i b : ℕ} {o : Fin 2 → ℕ} {h hl} (e : o = ![128 * (grp c i).val, 0])
    {k : Vec F S128x1024 .bf16 → Prog (TpuEff nD τ sig (Elt F) Λ₀ .tc) α} :
    iprop(records m ∗ mid m c s i b)
      ⊢ iprop((mid m c s i b -∗ run c (k (xrows m c (grp c i))) Q)
          -∗ run c (.op (.load xM (Rect.unit (s := S1024x1024) o S128x1024.size h).toLoadRect hl) k) Q) := by
  subst e
  unfold mid xPts
  iintro ⟨-, HO, Hx, Hp, Hd⟩ Hk
  iapply (wp_load 𝒱₀ (c : Thread nD τ) none Set.univ (m := xM) (Finset.subset_univ _)) $$ Hx; iintro Hx
  iapply Hk
  isplitl [HO]; · iexact HO
  isplitl [Hx]; · iexact Hx
  isplitl [Hp] <;> iassumption

/-- A trip reads its two slots before it writes them; nothing depends on what it finds. -/
theorem step_peek {s i b : ℕ} (hi : i < 8) {o : Fin 3 → ℕ} {h hl} (e : o = ![2 * (grp c i).val, 0, 0])
    {k : Prog (TpuEff nD τ sig (Elt F) Λ₀ .tc) α} :
    iprop(records m ∗ mid m c s i b)
      ⊢ iprop((mid m c s i b -∗ run c k Q)
          -∗ run c (.op (.load stM (Rect.unit (s := S16x64x1024) o S2x64x1024.size h).toLoadRect hl) fun _ => k) Q) := by
  subst e
  unfold mid
  rw [pend_peel _ hi]
  unfold grpItem
  iintro ⟨-, HO, Hx, ⟨⟨%f, Hg⟩, Hp⟩, Hd⟩ Hk
  iapply (wp_load 𝒱₀ (c : Thread nD τ) none Set.univ (m := stM) (S := pairSet (grp c i))
    (by rw [whole_setOn, ← pairR_set])) $$ Hg; iintro Hg
  iapply Hk
  isplitl [HO]; · iexact HO
  isplitl [Hx]; · iexact Hx
  isplitl [Hg Hp]
  · isplitl [Hg]; · iexists f; iexact Hg
    iexact Hp
  iexact Hd

/-- The two slots of a trip, written. -/
theorem group_wp {i : ℕ} {o : Fin 3 → ℕ} {h hx hm} (e : o = ![2 * (grp c i).val, 0, 0]) {v : FVec F S2x64x1024 .bf16}
    (hv : v = groupVal m c (grp c i)) {k : PUnit → Prog (TpuEff nD τ sig (Elt F) Λ₀ .tc) α} :
    grpItem c i
      ⊢ iprop((stPts c (chunkAt c i 0) (stageFull m c) ∗ stPts c (chunkAt c i 1) (stageFull m c) -∗ run c (k ⟨⟩) Q)
          -∗ run c (.op (.store stM (Rect.unit (s := S16x64x1024) o S2x64x1024.size h) v Finset.univ hx hm) k) Q) := by
  subst e hv
  have hS : (stM.access (pairR (grp c i))).setOn Finset.univ ⊆ pairSet (grp c i) := by rw [whole_access cc0_scratch0 (pairR (grp c i)), pairR_set]
  have h1 (f : S16x64x1024.Idx → Elt F .bf16) :
      ((((c : Thread nD τ).loc cc0_scratch0) ↦[pairSet (grp c i)]{fullShare} ((stM.access (pairR (grp c i))).write (Elt F) f (groupVal m c (grp c i)) Finset.univ)) : sProp 𝕄)
        = (((c : Thread nD τ).loc cc0_scratch0) ↦[pairSet (grp c i)]{fullShare} stageFull m c) :=
    pointsTo_congr fun j hj => stored_pair m c (grp c i) f j hj
  have h2 : ((((c : Thread nD τ).loc cc0_scratch0) ↦[pairSet (grp c i)]{fullShare} stageFull m c) : sProp 𝕄)
      ⊢ iprop(stPts c (chunkAt c i 0) (stageFull m c) ∗ stPts c (chunkAt c i 1) (stageFull m c)) := by
    rw [pairSet_eq]; unfold stPts
    exact (pointsTo_union (slotSet_disjoint (chunkAt_ne c i))).1
  unfold grpItem
  iintro ⟨%f, Hg⟩ Hk
  iapply (wp_store 𝒱₀ (c : Thread nD τ) none Set.univ (m := stM) (r := pairR (grp c i)) (Mk := Finset.univ) (S := pairSet (grp c i)) (f := f) hS) $$ Hg; iintro Hg
  ihave Hg := (Entails.of_eq (h1 f)) $$ Hg
  iapply Hk
  iapply h2
  iexact Hg

/-- A trip but the last writes its product: two more chunks are ready. -/
theorem step_group {i : ℕ} (hi : i < 7) {o : Fin 3 → ℕ} {h hx hm} (e : o = ![2 * (grp c i).val, 0, 0]) {v : FVec F S2x64x1024 .bf16}
    (hv : v = groupVal m c (grp c i)) {k : PUnit → Prog (TpuEff nD τ sig (Elt F) Λ₀ .tc) α} :
    iprop(records m ∗ mid m c (2 * i) i (2 * i))
      ⊢ iprop((mid m c (2 * i) (i + 1) (2 * i + 2) -∗ run c (k ⟨⟩) Q)
          -∗ run c (.op (.store stM (Rect.unit (s := S16x64x1024) o S2x64x1024.size h) v Finset.univ hx hm) k) Q) := by
  have e0 : tgt c (2 * i) = chunkAt c i 0 := by
    unfold tgt; rw [if_pos (by omega), show 2 * i / 2 = i by omega, show 2 * i % 2 = 0 by omega]
  have e1 : tgt c (2 * i + 1) = chunkAt c i 1 := by
    unfold tgt; rw [if_pos (by omega), show (2 * i + 1) / 2 = i by omega, show (2 * i + 1) % 2 = 1 by omega]
  unfold mid
  rw [pend_peel _ (show i < 8 by omega), pend_end, pend_peel _ (show 2 * i < 2 * i + 2 by omega), pend_peel _ (show 2 * i + 1 < 2 * i + 2 by omega), pend_end]
  unfold stItem
  rw [e0, e1]
  iintro ⟨-, HO, Hx, ⟨Hg, Hp⟩, He⟩ Hk
  iapply (group_wp m c e hv) $$ Hg
  iintro ⟨H0, H1⟩
  iapply Hk
  isplitl [HO]; · iexact HO
  isplitl [Hx]; · iexact Hx
  isplitl [Hp]; · iexact Hp
  isplitl [H0]; · iexact H0
  isplitl [H1] <;> iassumption

/-- In the last trip the device reaches its own chunk first. -/
theorem chunkAt_own (c : Dev nD) : chunkAt c 7 0 = c := by revert c; decide +kernel

/-- The last trip writes its product: one more chunk is ready, and the other is the device's own. -/
theorem step_group_last {o : Fin 3 → ℕ} {h hx hm} (e : o = ![2 * (grp c 7).val, 0, 0]) {v : FVec F S2x64x1024 .bf16}
    (hv : v = groupVal m c (grp c 7)) {k : PUnit → Prog (TpuEff nD τ sig (Elt F) Λ₀ .tc) α} :
    iprop(records m ∗ mid m c 14 7 14 ∗ emp)
      ⊢ iprop((mid m c 14 8 15 ∗ stPts c c (stageFull m c) -∗ run c (k ⟨⟩) Q)
          -∗ run c (.op (.store stM (Rect.unit (s := S16x64x1024) o S2x64x1024.size h) v Finset.univ hx hm) k) Q) := by
  have e0 : chunkAt c 7 0 = c := chunkAt_own c
  have e1 : tgt c 14 = chunkAt c 7 1 := rfl
  unfold mid
  rw [pend_peel _ (show 7 < 8 by omega), pend_end, pend_end, pend_peel _ (show 14 < 15 by omega), pend_end]
  unfold stItem
  rw [e1]
  iintro ⟨-, ⟨HO, Hx, ⟨Hg, Hp⟩, He⟩, -⟩ Hk
  iapply (group_wp m c e hv) $$ Hg
  rw [e0]
  iintro ⟨H0, H1⟩
  iapply Hk
  isplitr [H0]
  · isplitl [HO]; · iexact HO
    isplitl [Hx]; · iexact Hx
    isplitl [Hp]; · iexact Hp
    isplitl [H1] <;> iassumption
  iexact H0

/-- The `s`-th copy of a partial chunk, between the trips. -/
theorem step_send {s i b : ℕ} (hs : s < 15) (hb : s < b) {n : Dev nD} (hn : n = tgt c s) {q₁ q₂ : DmaSem sig} (h₁ : q₁ = sendS (tgt c s)) (h₂ : q₂ = recvS c)
    {o₃ : Fin 3 → ℕ} {i₃} (h₃ : o₃ = ![c.val, 0, 0]) {o₄ : Fin 3 → ℕ} {i₄} (h₄ : o₄ = ![(tgt c s).val, 0, 0]) {hsc hsrc hdst hsem}
    {k : PUnit → Prog (TpuEff nD τ sig (Elt F) Λ₀ .tc) α} :
    iprop(records m ∗ mid m c s i b ∗ pend 15 (partItem c) s ∗ past (partSent c) s)
      ⊢ iprop((mid m c (s + 1) i b ∗ pend 15 (partItem (F := F) c) (s + 1) ∗ past (partSent (F := F) c) (s + 1) -∗ run c (k ⟨⟩) Q)
          -∗ run c (.op (.enqueueDma ((stM.slice (Rect.unit (s := S16x64x1024) o₄ S1x64x1024.size i₄) (fun _ => rfl)).squeeze S64x1024 squeezes_S1x64x1024_S64x1024)
              (.remote (Dev.tc n : Thread nD τ) ((rsM.slice (Rect.unit (s := S16x64x1024) o₃ S1x64x1024.size i₃) (fun _ => rfl)).squeeze S64x1024 squeezes_S1x64x1024_S64x1024) (.dma q₁) hsc)
              (.dma q₂) hsrc hdst hsem) k) Q) := by
  unfold mid
  rw [pend_peel (stItem m c) hb]
  iintro ⟨#HR, ⟨HO, Hx, Hp, Hst, Hd⟩, Hi, Hs⟩ Hk
  iapply (step_part m c hs hn h₁ h₂ h₃ h₄) $$ [HO Hst Hi Hs]
  · isplitr; · iexact HR
    isplitl [HO]; · iexact HO
    isplitl [Hst]; · unfold stItem; iexact Hst
    isplitl [Hi] <;> iassumption
  iintro ⟨HO, Hi, Hs⟩
  iapply Hk
  isplitl [HO Hx Hp Hd]
  · isplitl [HO]; · iexact HO
    isplitl [Hx]; · iexact Hx
    isplitl [Hp] <;> iassumption
  isplitl [Hi] <;> iassumption

/-! ## The chunks that arrived -/

/-- The device reads its own partial chunk. -/
theorem step_own {o : Fin 3 → ℕ} {h hl} (e : o = ![c.val, 0, 0]) {k : Vec F S1x64x1024 .bf16 → Prog (TpuEff nD τ sig (Elt F) Λ₀ .tc) α} :
    stPts c c (stageFull m c)
      ⊢ iprop((stPts c c (stageFull m c) -∗ run c (k (ownLoad m c)) Q)
          -∗ run c (.op (.load stM (Rect.unit (s := S16x64x1024) o S1x64x1024.size h).toLoadRect hl) k) Q) := by
  subst e
  unfold stPts
  exact wp_load 𝒱₀ (c : Thread nD τ) none Set.univ (m := stM) (S := slotSet c) (by rw [whole_setOn, ← slotR_set])

/-- The device reads the partial chunk that arrived last. -/
theorem step_rs {j : ℕ} {A B : sProp (MT nD τ sig Unit (Elt F) ℕ UU ℕ)} {o : Fin 3 → ℕ} {h hl} (e : o = ![(peer c j).val, 0, 0])
    {k : Vec F S1x64x1024 .bf16 → Prog (TpuEff nD τ sig (Elt F) Λ₀ .tc) α} :
    iprop(records m ∗ A ∗ B ∗ past (recvGot m c) (j + 1))
      ⊢ iprop((A ∗ B ∗ past (recvGot m c) (j + 1) -∗ run c (k (rsLoad m c (peer c j))) Q)
          -∗ run c (.op (.load rsM (Rect.unit (s := S16x64x1024) o S1x64x1024.size h).toLoadRect hl) k) Q) := by
  subst e
  rw [past_snoc]
  unfold recvGot rsPts
  iintro ⟨-, HA, HB, ⟨Hg, Ha⟩, Hp⟩ Hk
  iapply (wp_load 𝒱₀ (c : Thread nD τ) none Set.univ (m := rsM) (S := slotSet (peer c j))
    (by rw [whole_setOn, ← slotR_set])) $$ Hg; iintro Hg
  iapply Hk
  isplitl [HA]; · iexact HA
  isplitl [HB]; · iexact HB
  isplitl [Hg Ha]
  · isplitl [Hg] <;> iassumption
  iexact Hp

end

end Cert.Mlp

end
-- ==== Proof.Places.lean ====
/-
# Where the kernel's steps go

The kernel computes the devices, slots and rows of its steps from the number of its own device. These are the places that the
schedule gives them.
-/
module

public import proofs.«01_k».proof.Proof.Local

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- The `s`-th copy of a partial chunk is made, to the device, with the semaphore and from the slot that the schedule says. -/
abbrev SendAt (c : Dev nD) (s : ℕ) (cond : BitVec 1) (dev : ℕ) (sem : Fin 1 → ℕ) (src : Fin 3 → ℕ) : Prop :=
  cond = 1#1 ∧ dev = (tgt c s).val ∧ sem = ![(tgt c s).val] ∧ src = ![(tgt c s).val, 0, 0]

/-- Copy 0 is made, and as the schedule says. -/
theorem send_at_0 : ∀ c, SendAt c 0 (k0_cond1 c) (k0_dev16 c) (k0_off3 c) (k0_off6 c) := by decide +kernel
/-- Copy 1 is made, and as the schedule says. -/
theorem send_at_1 : ∀ c, SendAt c 1 (k0_cond2 c) (k0_dev17 c) (k0_off7 c) (k0_off10 c) := by decide +kernel
/-- Copy 2 is made, and as the schedule says. -/
theorem send_at_2 : ∀ c, SendAt c 2 (k0_cond3 c) (k0_dev18 c) (k0_off11 c) (k0_off14 c) := by decide +kernel
/-- Copy 3 is made, and as the schedule says. -/
theorem send_at_3 : ∀ c, SendAt c 3 (k0_cond4 c) (k0_dev19 c) (k0_off15 c) (k0_off18 c) := by decide +kernel
/-- Copy 4 is made, and as the schedule says. -/
theorem send_at_4 : ∀ c, SendAt c 4 (k0_cond5 c) (k0_dev20 c) (k0_off19 c) (k0_off22 c) := by decide +kernel
/-- Copy 5 is made, and as the schedule says. -/
theorem send_at_5 : ∀ c, SendAt c 5 (k0_cond6 c) (k0_dev21 c) (k0_off23 c) (k0_off26 c) := by decide +kernel
/-- Copy 6 is made, and as the schedule says. -/
theorem send_at_6 : ∀ c, SendAt c 6 (k0_cond7 c) (k0_dev22 c) (k0_off27 c) (k0_off30 c) := by decide +kernel
/-- Copy 7 is made, and as the schedule says. -/
theorem send_at_7 : ∀ c, SendAt c 7 (k0_cond8 c) (k0_dev23 c) (k0_off31 c) (k0_off34 c) := by decide +kernel
/-- Copy 8 is made, and as the schedule says. -/
theorem send_at_8 : ∀ c, SendAt c 8 (k0_cond9 c) (k0_dev24 c) (k0_off35 c) (k0_off38 c) := by decide +kernel
/-- Copy 9 is made, and as the schedule says. -/
theorem send_at_9 : ∀ c, SendAt c 9 (k0_cond10 c) (k0_dev25 c) (k0_off39 c) (k0_off42 c) := by decide +kernel
/-- Copy 10 is made, and as the schedule says. -/
theorem send_at_10 : ∀ c, SendAt c 10 (k0_cond11 c) (k0_dev26 c) (k0_off43 c) (k0_off46 c) := by decide +kernel
/-- Copy 11 is made, and as the schedule says. -/
theorem send_at_11 : ∀ c, SendAt c 11 (k0_cond12 c) (k0_dev27 c) (k0_off47 c) (k0_off50 c) := by decide +kernel
/-- Copy 12 is made, and as the schedule says. -/
theorem send_at_12 : ∀ c, SendAt c 12 (k0_cond13 c) (k0_dev28 c) (k0_off51 c) (k0_off54 c) := by decide +kernel
/-- Copy 13 is made, and as the schedule says. -/
theorem send_at_13 : ∀ c, SendAt c 13 (k0_cond14 c) (k0_dev29 c) (k0_off55 c) (k0_off58 c) := by decide +kernel
/-- Copy 14 is made, and as the schedule says. -/
theorem send_at_14 : ∀ c, SendAt c 14 (k0_cond16 c) (k0_dev31 c) (k0_off63 c) (k0_off66 c) := by decide +kernel
/-- The copy that would be to the device itself is not made. -/
theorem no_send_own : ∀ c, ¬ k0_cond15 c = 1#1 := by decide +kernel

/-- The rows of `x` that trip `i` reads, and the slots that it writes. -/
theorem trip_rows : ∀ (c : Dev nD) (i : Fin 8), k0_off1 c (BitVec.ofNat 32 i.val) = ![128 * (grp c i.val).val, 0] := by decide +kernel
/-- The slots that a trip writes. -/
theorem trip_slots : ∀ (c : Dev nD) (i : Fin 8), k0_off2 c (BitVec.ofNat 32 i.val) = ![2 * (grp c i.val).val, 0, 0] := by decide +kernel

/-- The places of the steps towards the `j`-th other device. -/
theorem peer_sem : ∀ (c : Dev nD) (j : Fin 15), k0_off68 c (BitVec.ofNat 32 (1 + j.val)) = ![(peer c j.val).val] := by decide +kernel
/-- The slot that a receive waits for. -/
theorem peer_slot : ∀ (c : Dev nD) (j : Fin 15), k0_off69 c (BitVec.ofNat 32 (1 + j.val)) = ![(peer c j.val).val, 0, 0] := by decide +kernel
/-- The slot that is then loaded. -/
theorem peer_slot' : ∀ (c : Dev nD) (j : Fin 15), k0_off70 c (BitVec.ofNat 32 (1 + j.val)) = ![(peer c j.val).val, 0, 0] := by decide +kernel

end Cert.Mlp

end
-- ==== Proof.PartsSend.lean ====
/-
# The kernel's text, part by part: the barrier

Each part of the printed kernel is a few steps in a row. A part's theorem says that it leads from one state of the schedule to
the next: whatever runs on from the state behind it, runs from the state before it.
-/
module

public import proofs.«01_k».proof.Proof.Places

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD) {α : Type} {Q : α → sProp (MT nD τ sig Unit (Elt F) ℕ UU ℕ)} {R : sProp (MT nD τ sig Unit (Elt F) ℕ UU ℕ)}
  {h₀ : xM.IsWhole} {h₁ : w1M.IsWhole} {h₂ : w2M.IsWhole} {h₃ : oM.IsWhole} {h₄ : stM.IsWhole} {h₅ : rsM.IsWhole} {h₆ : agM.IsWhole}

/-- Five units of the others' barriers. -/
theorem part1_wp {k} (H : ∀ a b, iprop(records m ∗ own c 0 0 5 ∗ pend 15 (sigItem c) 5 ∗ R) ⊢ run c (k ⟨c, a, SemArray.scalar (sig.barrier 0 rfl), b, 16#32⟩) Q) :
    iprop(records m ∗ own c 0 0 0 ∗ pend 15 (sigItem c) 0 ∗ R) ⊢ run c (k0_part1 (F := F) xM h₀ w1M h₁ w2M h₂ oM h₃ stM h₄ rsM h₅ agM h₆ cc0_scratch3 cc0_scratch4 cc0_scratch5 >>= k) Q := by
  rw [k0_part1_eq_skeleton]; unfold k0_part1_skel
  simp only [semSignalWord, semWaitWord, Prog.lift, Prog.bind_op, Prog.bind_ret, Prog.pure_eq_ret]
  rw [run, wp_deviceId]
  refine go2 m (step_signal m c (j := 0) (by omega) (Fin.ext (k0_dev1_eq c))) ?_
  refine go2 m (step_signal m c (j := 1) (by omega) (Fin.ext (k0_dev2_eq c))) ?_
  refine go2 m (step_signal m c (j := 2) (by omega) (Fin.ext (k0_dev3_eq c))) ?_
  refine go2 m (step_signal m c (j := 3) (by omega) (Fin.ext (k0_dev4_eq c))) ?_
  refine go2 m (step_signal m c (j := 4) (by omega) (Fin.ext (k0_dev5_eq c))) ?_
  exact H _ _

/-- Six more. -/
theorem part2_wp {k v₂ a b} (H : ∀ a b, iprop(records m ∗ own c 0 0 11 ∗ pend 15 (sigItem c) 11 ∗ R) ⊢ run c (k ⟨a, b⟩) Q) :
    iprop(records m ∗ own c 0 0 5 ∗ pend 15 (sigItem c) 5 ∗ R) ⊢ run c (k0_part2 (F := F) xM h₀ w1M h₁ w2M h₂ oM h₃ stM h₄ rsM h₅ agM h₆ cc0_scratch3 cc0_scratch4 cc0_scratch5 c v₂ (SemArray.scalar (sig.barrier 0 rfl)) a b >>= k) Q := by
  rw [k0_part2_eq_skeleton]; unfold k0_part2_skel
  simp only [semSignalWord, semWaitWord, Prog.lift, Prog.bind_op, Prog.bind_ret, Prog.pure_eq_ret]
  refine go2 m (step_signal m c (j := 5) (by omega) (Fin.ext (k0_dev6_eq c))) ?_
  refine go2 m (step_signal m c (j := 6) (by omega) (Fin.ext (k0_dev7_eq c))) ?_
  refine go2 m (step_signal m c (j := 7) (by omega) (Fin.ext (k0_dev8_eq c))) ?_
  refine go2 m (step_signal m c (j := 8) (by omega) (Fin.ext (k0_dev9_eq c))) ?_
  refine go2 m (step_signal m c (j := 9) (by omega) (Fin.ext (k0_dev10_eq c))) ?_
  refine go2 m (step_signal m c (j := 10) (by omega) (Fin.ext (k0_dev11_eq c))) ?_
  exact H _ _

/-! ## The weights, and the meeting -/

/-- Device `c`'s parts of the two weights. -/
def wPts : sProp 𝕄 :=
  iprop((((c : Thread nD τ).loc cc0_stg1_0) ↦[Finset.univ]{fullShare} w1stg m c) ∗ ((c : Thread nD τ).loc cc0_stg2_0) ↦[Finset.univ]{fullShare} w2stg m c)

/-- The two weights, as the trips use them. -/
abbrev w1v : FVec F S1024x2048 .bf16 := k0_pay1 (w1stg m c)
/-- The second layer's weights, as the kernel loads them. -/
abbrev w2v : FVec F S2048x1024 .bf16 := k0_pay2 (w2stg m c)

/-- The offset of a whole array. -/
theorem zero2 : (![0, 0] : Fin 2 → ℕ) = fun _ => 0 := by decide

/-- The weights are loaded. -/
theorem step_w {A B : sProp (MT nD τ sig Unit (Elt F) ℕ UU ℕ)} {h h' hl hl'} {k : Vec F S1024x2048 .bf16 → Vec F S2048x1024 .bf16 → Prog (TpuEff nD τ sig (Elt F) Λ₀ .tc) α} :
    iprop(records m ∗ A ∗ B ∗ wPts m c)
      ⊢ iprop((A ∗ B ∗ wPts m c -∗ run c (k (w1stg m c) (w2stg m c)) Q)
          -∗ run c (.op (.load w1M (Rect.unit (s := S1024x2048) ![0, 0] S1024x2048.size h).toLoadRect hl) fun u =>
              .op (.load w2M (Rect.unit (s := S2048x1024) ![0, 0] S2048x1024.size h').toLoadRect hl') fun v => k u v) Q) := by
  unfold wPts
  iintro ⟨-, HA, HB, H1, H2⟩ Hk
  iapply (wp_load 𝒱₀ (c : Thread nD τ) none Set.univ (m := w1M) (Finset.subset_univ _)) $$ H1; iintro H1
  iapply (wp_load 𝒱₀ (c : Thread nD τ) none Set.univ (m := w2M) (Finset.subset_univ _)) $$ H2; iintro H2
  have e1 : w1M.view.readAt (Elt F) (Rect.unit (s := S1024x2048) ![0, 0] S1024x2048.size h).toLoadRect (w1stg m c) = w1stg m c :=
    Memref.readAt_unit_zero (Elt F) cc0_stg1_0 zero2 h (w1stg m c)
  have e2 : w2M.view.readAt (Elt F) (Rect.unit (s := S2048x1024) ![0, 0] S2048x1024.size h').toLoadRect (w2stg m c) = w2stg m c :=
    Memref.readAt_unit_zero (Elt F) cc0_stg2_0 zero2 h' (w2stg m c)
  rw [e1, e2]
  iapply Hk
  isplitl [HA]; · iexact HA
  isplitl [HB]; · iexact HB
  isplitl [H1] <;> iassumption

/-- The last four, and the weights. -/
theorem part3_wp {k v₂ a b} (H : ∀ a b d e, iprop(records m ∗ own c 0 0 15 ∗ pend 15 (sigItem c) 15 ∗ wPts m c ∗ R) ⊢ run c (k ⟨w1v m c, w2v m c, 2#32, a, b, d, e⟩) Q) :
    iprop(records m ∗ own c 0 0 11 ∗ pend 15 (sigItem c) 11 ∗ wPts m c ∗ R) ⊢ run c (k0_part3 (F := F) xM h₀ w1M h₁ w2M h₂ oM h₃ stM h₄ rsM h₅ agM h₆ cc0_scratch3 cc0_scratch4 cc0_scratch5 c v₂ (SemArray.scalar (sig.barrier 0 rfl)) a b >>= k) Q := by
  rw [k0_part3_eq_skeleton]; unfold k0_part3_skel
  simp only [semSignalWord, semWaitWord, Prog.lift, Prog.bind_op, Prog.bind_ret, Prog.pure_eq_ret]
  refine go2 m (step_signal m c (j := 11) (by omega) (Fin.ext (k0_dev12_eq c))) ?_
  refine go2 m (step_signal m c (j := 12) (by omega) (Fin.ext (k0_dev13_eq c))) ?_
  refine go2 m (step_signal m c (j := 13) (by omega) (Fin.ext (k0_dev14_eq c))) ?_
  refine go2 m (step_signal m c (j := 14) (by omega) (Fin.ext (k0_dev15_eq c))) ?_
  exact go3 m (step_w m c) (H _ _ _ _)

/-- The two ends of the `s`-th copy of a partial chunk. -/
def partTok (s : ℕ) : sProp 𝕄 := iprop(dutyTok ER (recvC (tgt c s) c) 0 c ∗ dutyTok ER (sendC c (tgt c s)) 0 (tgt c s))
/-- What the device brings to its barrier, and what it takes from it. -/
def barIn : sProp 𝕄 := iprop(cred (tallyAt (barC c) () 15) ∗ atPos ER (barC c) 0 ∅ 0 ∗ pend 15 (partTok (F := F) c) 0)
/-- The rows of another device's result that this device may write. -/
def outItem (j : ℕ) : sProp 𝕄 := iprop(∃ f, outPts (F := F) (peer c j) c f)
/-- What the wait for the barrier gives: the barrier's next round, and the rows of all other results. -/
def barOut : sProp 𝕄 := iprop(atPos ER (barC c) 1 ∅ 0 ∗ pend 15 (outItem (F := F) c) 0)

/-- At the barrier the device learns that every other one is ready for its copies. -/
theorem go_barrier {i b : ℕ} {k : PUnit → Prog (TpuEff nD τ sig (Elt F) Λ₀ .tc) α}
    (H : iprop(records m ∗ mid m c 0 i b ∗ pend 15 (partItem c) 0 ∗ past (partSent c) 0 ∗ barOut c ∗ R) ⊢ run c (k ⟨⟩) Q) :
    iprop(records m ∗ mid m c 0 i b ∗ barIn c ∗ R) ⊢ run c (.op (.semWait barS (15#32 : BitVec 32).toInt) k) Q := by
  have hz : iprop(pend 15 (fun s => iprop(∃ f, rsPts (F := F) (tgt c s) c f)) 0 ∗ pend 15 (partTok (F := F) c) 0) = pend 15 (partItem (F := F) c) 0 := by
    unfold pend; exact (bigSep_sep' _ _ _).symm
  unfold mid barIn at *
  iintro ⟨#HR, ⟨HO, HM⟩, ⟨Hc, Ha, Ht⟩, HX⟩
  iapply (step_barrier m c) $$ [HO Hc Ha]
  · isplitr; · iexact HR
    isplitl [HO]; · iexact HO
    isplitl [Hc] <;> iassumption
  iintro ⟨HO, Ha, Hs, Ho⟩
  iapply H
  isplitr; · iexact HR
  isplitl [HO HM]; · isplitl [HO] <;> iassumption
  isplitl [Hs Ht]
  · iapply (Entails.of_eq hz); isplitl [Hs] <;> iassumption
  isplitr; · rw [past_zero]; iempintro
  isplitr [HX]
  · unfold barOut outItem; isplitl [Ha] <;> iassumption
  iexact HX

/-! ## The trips -/

/-- The first trip; the meeting; the first copy. -/
theorem part4_wp {k v₂ a b d e f} (H : ∀ a b, iprop(records m ∗ mid m c 1 1 2 ∗ pend 15 (partItem c) 1 ∗ past (partSent c) 1 ∗ barOut c ∗ R) ⊢ run c (k ⟨a, b, 2#32⟩) Q) :
    iprop(records m ∗ mid m c 0 0 0 ∗ barIn c ∗ R) ⊢ run c (k0_part4 (F := F) xM h₀ w1M h₁ w2M h₂ oM h₃ stM h₄ rsM h₅ agM h₆ cc0_scratch3 cc0_scratch4 cc0_scratch5 c v₂ (SemArray.scalar (sig.barrier 0 rfl)) (w1v m c) (w2v m c) a b d e f >>= k) Q := by
  rw [k0_part4_eq_skeleton]; unfold k0_part4_skel
  simp only [dif_pos (send_at_0 c).1, semWaitWord, Prog.lift, Prog.bind_op, Prog.bind_ret, Prog.pure_eq_ret]
  refine go1 m (step_x m c (trip_rows c 0)) ?_
  refine go1 m (step_peek m c (i := 0) (by omega) (trip_slots c 0)) ?_
  refine go1 m (step_group m c (i := 0) (by omega) (trip_slots c 0) rfl) ?_
  refine go_barrier m c ?_
  refine go3 m (step_send m c (s := 0) (by omega) (by omega) (Fin.ext (send_at_0 c).2.1) (sem_send (send_at_0 c).2.2.1) (sem_recv (k0_off4_eq c)) (k0_off5_eq c) (send_at_0 c).2.2.2) ?_
  exact H _ _

/-- The second copy, and the second trip's product. -/
theorem part5_wp {k v₂ a b d} (H : ∀ a, iprop(records m ∗ mid m c 2 1 2 ∗ pend 15 (partItem c) 2 ∗ past (partSent c) 2 ∗ R) ⊢ run c (k ⟨a, k0_pay4 (w1v m c) (w2v m c) (xrows m c (grp c 1))⟩) Q) :
    iprop(records m ∗ mid m c 1 1 2 ∗ pend 15 (partItem c) 1 ∗ past (partSent c) 1 ∗ R) ⊢ run c (k0_part5 (F := F) xM h₀ w1M h₁ w2M h₂ oM h₃ stM h₄ rsM h₅ agM h₆ cc0_scratch3 cc0_scratch4 cc0_scratch5 c v₂ (w1v m c) (w2v m c) a b d >>= k) Q := by
  rw [k0_part5_eq_skeleton]; unfold k0_part5_skel
  simp only [dif_pos (send_at_1 c).1, semWaitWord, Prog.lift, Prog.bind_op, Prog.bind_ret, Prog.pure_eq_ret]
  refine go3 m (step_send m c (s := 1) (by omega) (by omega) (Fin.ext (send_at_1 c).2.1) (sem_send (send_at_1 c).2.2.1) (sem_recv (k0_off8_eq c)) (k0_off9_eq c) (send_at_1 c).2.2.2) ?_
  refine go1 m (step_x m c (trip_rows c 1)) ?_
  refine go1 m (step_peek m c (i := 1) (by omega) (trip_slots c 1)) ?_
  exact H _

/-- Its store, and its two copies. -/
theorem part6_wp {k v₂ a} (H : ∀ a, iprop(records m ∗ mid m c 4 2 4 ∗ pend 15 (partItem c) 4 ∗ past (partSent c) 4 ∗ R) ⊢ run c (k a) Q) :
    iprop(records m ∗ mid m c 2 1 2 ∗ pend 15 (partItem c) 2 ∗ past (partSent c) 2 ∗ R) ⊢ run c (k0_part6 (F := F) xM h₀ w1M h₁ w2M h₂ oM h₃ stM h₄ rsM h₅ agM h₆ cc0_scratch3 cc0_scratch4 cc0_scratch5 c v₂ a (k0_pay4 (w1v m c) (w2v m c) (xrows m c (grp c 1))) >>= k) Q := by
  rw [k0_part6_eq_skeleton]; unfold k0_part6_skel
  simp only [dif_pos (send_at_2 c).1, dif_pos (send_at_3 c).1, semWaitWord, Prog.lift, Prog.bind_op, Prog.bind_ret, Prog.pure_eq_ret]
  refine go1 m (step_group m c (i := 1) (by omega) (trip_slots c 1) rfl) ?_
  refine go3 m (step_send m c (s := 2) (by omega) (by omega) (Fin.ext (send_at_2 c).2.1) (sem_send (send_at_2 c).2.2.1) (sem_recv (k0_off12_eq c)) (k0_off13_eq c) (send_at_2 c).2.2.2) ?_
  refine go3 m (step_send m c (s := 3) (by omega) (by omega) (Fin.ext (send_at_3 c).2.1) (sem_send (send_at_3 c).2.2.1) (sem_recv (k0_off16_eq c)) (k0_off17_eq c) (send_at_3 c).2.2.2) ?_
  exact H _

/-- The third trip. -/
theorem part7_wp {k v₂ a} (H : ∀ a b d e, iprop(records m ∗ mid m c 6 3 6 ∗ pend 15 (partItem c) 6 ∗ past (partSent c) 6 ∗ R) ⊢ run c (k ⟨2#32, a, b, d, e⟩) Q) :
    iprop(records m ∗ mid m c 4 2 4 ∗ pend 15 (partItem c) 4 ∗ past (partSent c) 4 ∗ R) ⊢ run c (k0_part7 (F := F) xM h₀ w1M h₁ w2M h₂ oM h₃ stM h₄ rsM h₅ agM h₆ cc0_scratch3 cc0_scratch4 cc0_scratch5 c v₂ (w1v m c) (w2v m c) a >>= k) Q := by
  rw [k0_part7_eq_skeleton]; unfold k0_part7_skel
  simp only [dif_pos (send_at_4 c).1, dif_pos (send_at_5 c).1, semWaitWord, Prog.lift, Prog.bind_op, Prog.bind_ret, Prog.pure_eq_ret]
  refine go1 m (step_x m c (trip_rows c 2)) ?_
  refine go1 m (step_peek m c (i := 2) (by omega) (trip_slots c 2)) ?_
  refine go1 m (step_group m c (i := 2) (by omega) (trip_slots c 2) rfl) ?_
  refine go3 m (step_send m c (s := 4) (by omega) (by omega) (Fin.ext (send_at_4 c).2.1) (sem_send (send_at_4 c).2.2.1) (sem_recv (k0_off20_eq c)) (k0_off21_eq c) (send_at_4 c).2.2.2) ?_
  refine go3 m (step_send m c (s := 5) (by omega) (by omega) (Fin.ext (send_at_5 c).2.1) (sem_send (send_at_5 c).2.2.1) (sem_recv (k0_off24_eq c)) (k0_off25_eq c) (send_at_5 c).2.2.2) ?_
  exact H _ _ _ _

/-- The fourth trip, and the first of its copies. -/
theorem part8_wp {k v₂ a b d e f} (H : ∀ a b, iprop(records m ∗ mid m c 7 4 8 ∗ pend 15 (partItem c) 7 ∗ past (partSent c) 7 ∗ R) ⊢ run c (k ⟨a, b⟩) Q) :
    iprop(records m ∗ mid m c 6 3 6 ∗ pend 15 (partItem c) 6 ∗ past (partSent c) 6 ∗ R) ⊢ run c (k0_part8 (F := F) xM h₀ w1M h₁ w2M h₂ oM h₃ stM h₄ rsM h₅ agM h₆ cc0_scratch3 cc0_scratch4 cc0_scratch5 c v₂ (w1v m c) (w2v m c) a b d e f >>= k) Q := by
  rw [k0_part8_eq_skeleton]; unfold k0_part8_skel
  simp only [dif_pos (send_at_6 c).1, semWaitWord, Prog.lift, Prog.bind_op, Prog.bind_ret, Prog.pure_eq_ret]
  refine go1 m (step_x m c (trip_rows c 3)) ?_
  refine go1 m (step_peek m c (i := 3) (by omega) (trip_slots c 3)) ?_
  refine go1 m (step_group m c (i := 3) (by omega) (trip_slots c 3) rfl) ?_
  refine go3 m (step_send m c (s := 6) (by omega) (by omega) (Fin.ext (send_at_6 c).2.1) (sem_send (send_at_6 c).2.2.1) (sem_recv (k0_off28_eq c)) (k0_off29_eq c) (send_at_6 c).2.2.2) ?_
  exact H _ _

/-- The second; the fifth trip. -/
theorem part9_wp {k v₂ a b} (H : ∀ a, iprop(records m ∗ mid m c 8 5 10 ∗ pend 15 (partItem c) 8 ∗ past (partSent c) 8 ∗ R) ⊢ run c (k ⟨a, 2#32⟩) Q) :
    iprop(records m ∗ mid m c 7 4 8 ∗ pend 15 (partItem c) 7 ∗ past (partSent c) 7 ∗ R) ⊢ run c (k0_part9 (F := F) xM h₀ w1M h₁ w2M h₂ oM h₃ stM h₄ rsM h₅ agM h₆ cc0_scratch3 cc0_scratch4 cc0_scratch5 c v₂ (w1v m c) (w2v m c) a b >>= k) Q := by
  rw [k0_part9_eq_skeleton]; unfold k0_part9_skel
  simp only [dif_pos (send_at_7 c).1, semWaitWord, Prog.lift, Prog.bind_op, Prog.bind_ret, Prog.pure_eq_ret]
  refine go3 m (step_send m c (s := 7) (by omega) (by omega) (Fin.ext (send_at_7 c).2.1) (sem_send (send_at_7 c).2.2.1) (sem_recv (k0_off32_eq c)) (k0_off33_eq c) (send_at_7 c).2.2.2) ?_
  refine go1 m (step_x m c (trip_rows c 4)) ?_
  refine go1 m (step_peek m c (i := 4) (by omega) (trip_slots c 4)) ?_
  refine go1 m (step_group m c (i := 4) (by omega) (trip_slots c 4) rfl) ?_
  exact H _

/-- Its two copies; the rows of the sixth trip. -/
theorem part10_wp {k v₂ a b} (H : ∀ a, iprop(records m ∗ mid m c 10 5 10 ∗ pend 15 (partItem c) 10 ∗ past (partSent c) 10 ∗ R) ⊢ run c (k ⟨a, k0_pay9 (xrows m c (grp c 5)), constant S128x2048 .f32 0x00000000#32⟩) Q) :
    iprop(records m ∗ mid m c 8 5 10 ∗ pend 15 (partItem c) 8 ∗ past (partSent c) 8 ∗ R) ⊢ run c (k0_part10 (F := F) xM h₀ w1M h₁ w2M h₂ oM h₃ stM h₄ rsM h₅ agM h₆ cc0_scratch3 cc0_scratch4 cc0_scratch5 c v₂ a b >>= k) Q := by
  rw [k0_part10_eq_skeleton]; unfold k0_part10_skel
  simp only [dif_pos (send_at_8 c).1, dif_pos (send_at_9 c).1, semWaitWord, Prog.lift, Prog.bind_op, Prog.bind_ret, Prog.pure_eq_ret]
  refine go3 m (step_send m c (s := 8) (by omega) (by omega) (Fin.ext (send_at_8 c).2.1) (sem_send (send_at_8 c).2.2.1) (sem_recv (k0_off36_eq c)) (k0_off37_eq c) (send_at_8 c).2.2.2) ?_
  refine go3 m (step_send m c (s := 9) (by omega) (by omega) (Fin.ext (send_at_9 c).2.1) (sem_send (send_at_9 c).2.2.1) (sem_recv (k0_off40_eq c)) (k0_off41_eq c) (send_at_9 c).2.2.2) ?_
  refine go1 m (step_x m c (trip_rows c 5)) ?_
  exact H _

/-- The sixth trip's product and its copies. -/
theorem part11_wp {k v₂ a} (H : ∀ a b d, iprop(records m ∗ mid m c 12 6 12 ∗ pend 15 (partItem c) 12 ∗ past (partSent c) 12 ∗ R) ⊢ run c (k ⟨a, b, d⟩) Q) :
    iprop(records m ∗ mid m c 10 5 10 ∗ pend 15 (partItem c) 10 ∗ past (partSent c) 10 ∗ R) ⊢ run c (k0_part11 (F := F) xM h₀ w1M h₁ w2M h₂ oM h₃ stM h₄ rsM h₅ agM h₆ cc0_scratch3 cc0_scratch4 cc0_scratch5 c v₂ (w1v m c) (w2v m c) a (k0_pay9 (xrows m c (grp c 5))) (constant S128x2048 .f32 0x00000000#32) >>= k) Q := by
  rw [k0_part11_eq_skeleton]; unfold k0_part11_skel
  simp only [dif_pos (send_at_10 c).1, dif_pos (send_at_11 c).1, semWaitWord, Prog.lift, Prog.bind_op, Prog.bind_ret, Prog.pure_eq_ret]
  refine go1 m (step_peek m c (i := 5) (by omega) (trip_slots c 5)) ?_
  refine go1 m (step_group m c (i := 5) (by omega) (trip_slots c 5) rfl) ?_
  refine go3 m (step_send m c (s := 10) (by omega) (by omega) (Fin.ext (send_at_10 c).2.1) (sem_send (send_at_10 c).2.2.1) (sem_recv (k0_off44_eq c)) (k0_off45_eq c) (send_at_10 c).2.2.2) ?_
  refine go3 m (step_send m c (s := 11) (by omega) (by omega) (Fin.ext (send_at_11 c).2.1) (sem_send (send_at_11 c).2.2.1) (sem_recv (k0_off48_eq c)) (k0_off49_eq c) (send_at_11 c).2.2.2) ?_
  exact H _ _ _

/-- The seventh trip, and the first of its copies. -/
theorem part12_wp {k v₂ a b d} (H : ∀ a, iprop(records m ∗ mid m c 13 7 14 ∗ pend 15 (partItem c) 13 ∗ past (partSent c) 13 ∗ R) ⊢ run c (k a) Q) :
    iprop(records m ∗ mid m c 12 6 12 ∗ pend 15 (partItem c) 12 ∗ past (partSent c) 12 ∗ R) ⊢ run c (k0_part12 (F := F) xM h₀ w1M h₁ w2M h₂ oM h₃ stM h₄ rsM h₅ agM h₆ cc0_scratch3 cc0_scratch4 cc0_scratch5 c v₂ (w1v m c) (w2v m c) a b d >>= k) Q := by
  rw [k0_part12_eq_skeleton]; unfold k0_part12_skel
  simp only [dif_pos (send_at_12 c).1, semWaitWord, Prog.lift, Prog.bind_op, Prog.bind_ret, Prog.pure_eq_ret]
  refine go1 m (step_x m c (trip_rows c 6)) ?_
  refine go1 m (step_peek m c (i := 6) (by omega) (trip_slots c 6)) ?_
  refine go1 m (step_group m c (i := 6) (by omega) (trip_slots c 6) rfl) ?_
  refine go3 m (step_send m c (s := 12) (by omega) (by omega) (Fin.ext (send_at_12 c).2.1) (sem_send (send_at_12 c).2.2.1) (sem_recv (k0_off52_eq c)) (k0_off53_eq c) (send_at_12 c).2.2.2) ?_
  exact H _

/-- The last trip's store: one chunk to send, and the device's own. -/
theorem go_last {A B : sProp (MT nD τ sig Unit (Elt F) ℕ UU ℕ)} {o : Fin 3 → ℕ} {h hx hm} (e : o = ![2 * (grp c 7).val, 0, 0]) {v : FVec F S2x64x1024 .bf16}
    (hv : v = groupVal m c (grp c 7)) {k : PUnit → Prog (TpuEff nD τ sig (Elt F) Λ₀ .tc) α}
    (H : iprop(records m ∗ mid m c 14 8 15 ∗ A ∗ B ∗ stPts c c (stageFull m c) ∗ R) ⊢ run c (k ⟨⟩) Q) :
    iprop(records m ∗ mid m c 14 7 14 ∗ A ∗ B ∗ R)
      ⊢ run c (.op (.store stM (Rect.unit (s := S16x64x1024) o S2x64x1024.size h) v Finset.univ hx hm) k) Q := by
  iintro ⟨#HR, HM, HA, HB, HX⟩
  iapply (step_group_last m c e hv) $$ [HM]
  · isplitr; · iexact HR
    isplitl [HM]; · iexact HM
    iempintro
  iintro ⟨HM, Hs⟩
  iapply H
  isplitr; · iexact HR
  isplitl [HM]; · iexact HM
  isplitl [HA]; · iexact HA
  isplitl [HB]; · iexact HB
  isplitl [Hs] <;> iassumption

/-- The second; the last trip. -/
theorem part13_wp {k v₂ a} (H : ∀ a b d, iprop(records m ∗ mid m c 14 8 15 ∗ pend 15 (partItem c) 14 ∗ past (partSent c) 14 ∗ stPts c c (stageFull m c) ∗ R) ⊢ run c (k ⟨a, b, d⟩) Q) :
    iprop(records m ∗ mid m c 13 7 14 ∗ pend 15 (partItem c) 13 ∗ past (partSent c) 13 ∗ R) ⊢ run c (k0_part13 (F := F) xM h₀ w1M h₁ w2M h₂ oM h₃ stM h₄ rsM h₅ agM h₆ cc0_scratch3 cc0_scratch4 cc0_scratch5 c v₂ (w1v m c) (w2v m c) a >>= k) Q := by
  rw [k0_part13_eq_skeleton]; unfold k0_part13_skel
  simp only [dif_pos (send_at_13 c).1, semWaitWord, Prog.lift, Prog.bind_op, Prog.bind_ret, Prog.pure_eq_ret]
  refine go3 m (step_send m c (s := 13) (by omega) (by omega) (Fin.ext (send_at_13 c).2.1) (sem_send (send_at_13 c).2.2.1) (sem_recv (k0_off56_eq c)) (k0_off57_eq c) (send_at_13 c).2.2.2) ?_
  refine go1 m (step_x m c (trip_rows c 7)) ?_
  refine go1 m (step_peek m c (i := 7) (by omega) (trip_slots c 7)) ?_
  refine go_last m c (trip_slots c 7) rfl ?_
  exact H _ _ _

end Cert.Mlp

end
-- ==== Proof.PartsSum.lean ====
/-
# The kernel's text, part by part: the sum

The last copy of a partial chunk, and the waits for the fifteen that arrive: each is added to the device's own.
-/
module

public import proofs.«01_k».proof.Proof.PartsSend

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD) {α : Type} {Q : α → sProp (MT nD τ sig Unit (Elt F) ℕ UU ℕ)} {R : sProp (MT nD τ sig Unit (Elt F) ℕ UU ℕ)}
  {h₀ : xM.IsWhole} {h₁ : w1M.IsWhole} {h₂ : w2M.IsWhole} {h₃ : oM.IsWhole} {h₄ : stM.IsWhole} {h₅ : rsM.IsWhole} {h₆ : agM.IsWhole}

/-- A step that turns the fourth resource into another. -/
theorem go4 {A B C D D' P P' : sProp (MT nD τ sig Unit (Elt F) ℕ UU ℕ)} (s : D ⊢ iprop((D' -∗ P') -∗ P))
    (h : iprop(records m ∗ A ∗ B ∗ C ∗ D' ∗ R) ⊢ P') : iprop(records m ∗ A ∗ B ∗ C ∗ D ∗ R) ⊢ P := by
  iintro ⟨#HR, HA, HB, HC, HD, HX⟩
  iapply s $$ HD
  iintro HD
  iapply h
  isplitr; · iexact HR
  isplitl [HA]; · iexact HA
  isplitl [HB]; · iexact HB
  isplitl [HC]; · iexact HC
  isplitl [HD] <;> iassumption

/-- The buffer of the finished chunk, not yet written, and written. -/
def agAny : sProp 𝕄 := iprop(∃ f : S64x1024.Idx → Elt F .bf16, ((c : Thread nD τ).loc cc0_scratch2) ↦[Finset.univ]{fullShare} f)
/-- The buffer of the finished chunk, filled. -/
def agFull : sProp 𝕄 := ((c : Thread nD τ).loc cc0_scratch2) ↦[Finset.univ]{fullShare} agVal m c

/-- What the device keeps of its trips: `x`, its own partial chunk, and the credits of its copies. -/
def sentAll : sProp 𝕄 := iprop(xPts m c ∗ past (partSent (F := F) c) 15 ∗ stPts c c (stageFull m c))

/-- From the trips to the sum. -/
theorem to_sum : iprop(records m ∗ mid m c 15 8 15 ∗ pend 15 (partItem (F := F) c) 15 ∗ past (partSent (F := F) c) 15 ∗ stPts c c (stageFull m c) ∗ pend 15 (recvItem (F := F) c) 0 ∗ R)
    ⊢ iprop(records m ∗ own c 0 15 15 ∗ pend 15 (recvItem (F := F) c) 0 ∗ past (recvGot m c) 0 ∗ sentAll m c ∗ R) := by
  unfold mid sentAll
  rw [past_zero]
  iintro ⟨HR, ⟨HO, Hx, -, -⟩, -, Hs, Hst, Hr, HX⟩
  isplitl [HR]; · iexact HR
  isplitl [HO]; · iexact HO
  isplitl [Hr]; · iexact Hr
  isplitr; · iempintro
  isplitr [HX]
  · isplitl [Hx]; · iexact Hx
    isplitl [Hs] <;> iassumption
  iexact HX

/-- The last copy of a partial chunk; the device's own one and the first that arrived. -/
theorem part14_wp {k v₂ a b d} (H : ∀ a, iprop(records m ∗ own c 0 15 15 ∗ pend 15 (recvItem c) 1 ∗ past (recvGot m c) 1 ∗ sentAll m c ∗ R) ⊢ run c (k ⟨accAt m c 1, a⟩) Q) :
    iprop(records m ∗ mid m c 14 8 15 ∗ pend 15 (partItem c) 14 ∗ past (partSent c) 14 ∗ stPts c c (stageFull m c) ∗ pend 15 (recvItem c) 0 ∗ R) ⊢ run c (k0_part14 (F := F) xM h₀ w1M h₁ w2M h₂ oM h₃ stM h₄ rsM h₅ agM h₆ cc0_scratch3 cc0_scratch4 cc0_scratch5 c v₂ a b d >>= k) Q := by
  rw [k0_part14_eq_skeleton]; unfold k0_part14_skel
  simp only [dif_pos (send_at_14 c).1, dif_neg (no_send_own c), Prog.lift, Prog.bind_op, Prog.bind_ret, Prog.pure_eq_ret]
  refine go3 m (step_send m c (s := 14) (by omega) (by omega) (Fin.ext (send_at_14 c).2.1) (sem_send (send_at_14 c).2.2.1) (sem_recv (k0_off64_eq c)) (k0_off65_eq c) (send_at_14 c).2.2.2) ?_
  refine go4 m (step_own m c (k0_off67_eq c)) ?_
  refine (to_sum m c).trans ?_
  refine go3 m (step_recv m c (j := 0) (by omega) (sem_recv (peer_sem c 0))) ?_
  refine go3 m (step_rs m c (j := 0) (peer_slot' c 0)) ?_
  exact H _

/-- Two more. -/
theorem part15_wp {k v₂ a} (H : ∀ a, iprop(records m ∗ own c 0 15 15 ∗ pend 15 (recvItem c) 3 ∗ past (recvGot m c) 3 ∗ R) ⊢ run c (k ⟨accAt m c 3, a⟩) Q) :
    iprop(records m ∗ own c 0 15 15 ∗ pend 15 (recvItem c) 1 ∗ past (recvGot m c) 1 ∗ R) ⊢ run c (k0_part15 (F := F) xM h₀ w1M h₁ w2M h₂ oM h₃ stM h₄ rsM h₅ agM h₆ cc0_scratch3 cc0_scratch4 cc0_scratch5 c v₂ (accAt m c 1) a >>= k) Q := by
  rw [k0_part15_eq_skeleton]; unfold k0_part15_skel
  simp only [Prog.lift, Prog.bind_op, Prog.bind_ret, Prog.pure_eq_ret]
  refine go3 m (step_recv m c (j := 1) (by omega) (sem_recv (peer_sem c 1))) ?_
  refine go3 m (step_rs m c (j := 1) (peer_slot' c 1)) ?_
  refine go3 m (step_recv m c (j := 2) (by omega) (sem_recv (peer_sem c 2))) ?_
  refine go3 m (step_rs m c (j := 2) (peer_slot' c 2)) ?_
  exact H _

/-- Three more, the last of them not yet added. -/
theorem part16_wp {k v₂ a} (H : iprop(records m ∗ own c 0 15 15 ∗ pend 15 (recvItem c) 6 ∗ past (recvGot m c) 6 ∗ R) ⊢ run c (k ⟨accAt m c 5, k0_pay16 (rsLoad m c (peer c 5))⟩) Q) :
    iprop(records m ∗ own c 0 15 15 ∗ pend 15 (recvItem c) 3 ∗ past (recvGot m c) 3 ∗ R) ⊢ run c (k0_part16 (F := F) xM h₀ w1M h₁ w2M h₂ oM h₃ stM h₄ rsM h₅ agM h₆ cc0_scratch3 cc0_scratch4 cc0_scratch5 c v₂ (accAt m c 3) a >>= k) Q := by
  rw [k0_part16_eq_skeleton]; unfold k0_part16_skel
  simp only [Prog.lift, Prog.bind_op, Prog.bind_ret, Prog.pure_eq_ret]
  refine go3 m (step_recv m c (j := 3) (by omega) (sem_recv (peer_sem c 3))) ?_
  refine go3 m (step_rs m c (j := 3) (peer_slot' c 3)) ?_
  refine go3 m (step_recv m c (j := 4) (by omega) (sem_recv (peer_sem c 4))) ?_
  refine go3 m (step_rs m c (j := 4) (peer_slot' c 4)) ?_
  refine go3 m (step_recv m c (j := 5) (by omega) (sem_recv (peer_sem c 5))) ?_
  refine go3 m (step_rs m c (j := 5) (peer_slot' c 5)) ?_
  exact H

/-- Two more. -/
theorem part17_wp {k v₂} (H : ∀ a b, iprop(records m ∗ own c 0 15 15 ∗ pend 15 (recvItem c) 8 ∗ past (recvGot m c) 8 ∗ R) ⊢ run c (k ⟨accAt m c 8, a, b⟩) Q) :
    iprop(records m ∗ own c 0 15 15 ∗ pend 15 (recvItem c) 6 ∗ past (recvGot m c) 6 ∗ R) ⊢ run c (k0_part17 (F := F) xM h₀ w1M h₁ w2M h₂ oM h₃ stM h₄ rsM h₅ agM h₆ cc0_scratch3 cc0_scratch4 cc0_scratch5 c v₂ (accAt m c 5) (k0_pay16 (rsLoad m c (peer c 5))) >>= k) Q := by
  rw [k0_part17_eq_skeleton]; unfold k0_part17_skel
  simp only [Prog.lift, Prog.bind_op, Prog.bind_ret, Prog.pure_eq_ret]
  refine go3 m (step_recv m c (j := 6) (by omega) (sem_recv (peer_sem c 6))) ?_
  refine go3 m (step_rs m c (j := 6) (peer_slot' c 6)) ?_
  refine go3 m (step_recv m c (j := 7) (by omega) (sem_recv (peer_sem c 7))) ?_
  refine go3 m (step_rs m c (j := 7) (peer_slot' c 7)) ?_
  exact H _ _

/-- Two more. -/
theorem part18_wp {k v₂ a b} (H : ∀ a, iprop(records m ∗ own c 0 15 15 ∗ pend 15 (recvItem c) 10 ∗ past (recvGot m c) 10 ∗ R) ⊢ run c (k ⟨accAt m c 10, a⟩) Q) :
    iprop(records m ∗ own c 0 15 15 ∗ pend 15 (recvItem c) 8 ∗ past (recvGot m c) 8 ∗ R) ⊢ run c (k0_part18 (F := F) xM h₀ w1M h₁ w2M h₂ oM h₃ stM h₄ rsM h₅ agM h₆ cc0_scratch3 cc0_scratch4 cc0_scratch5 c v₂ (accAt m c 8) a b >>= k) Q := by
  rw [k0_part18_eq_skeleton]; unfold k0_part18_skel
  simp only [Prog.lift, Prog.bind_op, Prog.bind_ret, Prog.pure_eq_ret]
  refine go3 m (step_recv m c (j := 8) (by omega) (sem_recv (peer_sem c 8))) ?_
  refine go3 m (step_rs m c (j := 8) (peer_slot' c 8)) ?_
  refine go3 m (step_recv m c (j := 9) (by omega) (sem_recv (peer_sem c 9))) ?_
  refine go3 m (step_rs m c (j := 9) (peer_slot' c 9)) ?_
  exact H _

/-- Two more, and the wait for another. -/
theorem part19_wp {k v₂ a} (H : iprop(records m ∗ own c 0 15 15 ∗ pend 15 (recvItem c) 13 ∗ past (recvGot m c) 13 ∗ R) ⊢ run c (k (accAt m c 12)) Q) :
    iprop(records m ∗ own c 0 15 15 ∗ pend 15 (recvItem c) 10 ∗ past (recvGot m c) 10 ∗ R) ⊢ run c (k0_part19 (F := F) xM h₀ w1M h₁ w2M h₂ oM h₃ stM h₄ rsM h₅ agM h₆ cc0_scratch3 cc0_scratch4 cc0_scratch5 c v₂ (accAt m c 10) a >>= k) Q := by
  rw [k0_part19_eq_skeleton]; unfold k0_part19_skel
  simp only [Prog.lift, Prog.bind_op, Prog.bind_ret, Prog.pure_eq_ret]
  refine go3 m (step_recv m c (j := 10) (by omega) (sem_recv (peer_sem c 10))) ?_
  refine go3 m (step_rs m c (j := 10) (peer_slot' c 10)) ?_
  refine go3 m (step_recv m c (j := 11) (by omega) (sem_recv (peer_sem c 11))) ?_
  refine go3 m (step_rs m c (j := 11) (peer_slot' c 11)) ?_
  refine go3 m (step_recv m c (j := 12) (by omega) (sem_recv (peer_sem c 12))) ?_
  exact H

/-- The device looks at the buffer of the finished chunk before it writes it; nothing depends on what it finds. -/
theorem step_agpeek {h hl} {k : Vec F S64x1024 .bf16 → Prog (TpuEff nD τ sig (Elt F) Λ₀ .tc) α} :
    agAny c ⊢ iprop((agAny (F := F) c -∗ iprop(∀ v, run c (k v) Q)) -∗ run c (.op (.load agM (Rect.unit (s := S64x1024) ![0, 0] S64x1024.size h).toLoadRect hl) k) Q) := by
  unfold agAny
  iintro ⟨%f, Hf⟩ Hk
  iapply (wp_load 𝒱₀ (c : Thread nD τ) none Set.univ (m := agM) (Finset.subset_univ _)) $$ Hf; iintro Hf
  ihave Hk := Hk $$ [Hf]
  · iexists f; iexact Hf
  iapply Hk

/-- The last three. -/
theorem part20_wp {k v₂} (H : ∀ v, iprop(records m ∗ own c 0 15 15 ∗ pend 15 (recvItem c) 15 ∗ past (recvGot m c) 15 ∗ agAny c ∗ R) ⊢ run c (k ⟨k0_pay20 (accAt m c 12) (rsLoad m c (peer c 12)) (rsLoad m c (peer c 13)) (rsLoad m c (peer c 14)), v⟩) Q) :
    iprop(records m ∗ own c 0 15 15 ∗ pend 15 (recvItem c) 13 ∗ past (recvGot m c) 13 ∗ agAny c ∗ R) ⊢ run c (k0_part20 (F := F) xM h₀ w1M h₁ w2M h₂ oM h₃ stM h₄ rsM h₅ agM h₆ cc0_scratch3 cc0_scratch4 cc0_scratch5 c v₂ (accAt m c 12) >>= k) Q := by
  rw [k0_part20_eq_skeleton]; unfold k0_part20_skel
  simp only [Prog.lift, Prog.bind_op, Prog.bind_ret, Prog.pure_eq_ret]
  refine go3 m (step_rs m c (j := 12) (peer_slot' c 12)) ?_
  refine go3 m (step_recv m c (j := 13) (by omega) (sem_recv (peer_sem c 13))) ?_
  refine go3 m (step_rs m c (j := 13) (peer_slot' c 13)) ?_
  refine go3 m (step_recv m c (j := 14) (by omega) (sem_recv (peer_sem c 14))) ?_
  refine go3 m (step_rs m c (j := 14) (peer_slot' c 14)) ?_
  exact go4 m (step_agpeek c) (forall_intro H)

end Cert.Mlp

end
-- ==== Proof.PartsResult.lean ====
/-
# The kernel's text, part by part: the result

The finished chunk is written and sent to everyone, the device's own rows of the result are stored, and the device waits for the
other rows and for its last copies to leave.
-/
module

public import proofs.«01_k».proof.Proof.PartsSum

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD) {α : Type} {Q : α → sProp (MT nD τ sig Unit (Elt F) ℕ UU ℕ)} {R : sProp (MT nD τ sig Unit (Elt F) ℕ UU ℕ)}
  {h₀ : xM.IsWhole} {h₁ : w1M.IsWhole} {h₂ : w2M.IsWhole} {h₃ : oM.IsWhole} {h₄ : stM.IsWhole} {h₅ : rsM.IsWhole} {h₆ : agM.IsWhole}

/-- The store of the finished chunk. -/
theorem step_agstore {h hx hm} {v : FVec F S64x1024 .bf16} (hv : v = agVal m c) {k : PUnit → Prog (TpuEff nD τ sig (Elt F) Λ₀ .tc) α} :
    agAny c ⊢ iprop((agFull m c -∗ run c (k ⟨⟩) Q) -∗ run c (.op (.store agM (Rect.unit (s := S64x1024) ![0, 0] S64x1024.size h) v Finset.univ hx hm) k) Q) := by
  subst hv
  have e (f : S64x1024.Idx → Elt F .bf16) : (agM.access (Rect.unit (s := S64x1024) ![0, 0] S64x1024.size h)).write (Elt F) f (agVal m c) Finset.univ = agVal m c :=
    Memref.write_access_unit_zero_univ (Elt F) cc0_scratch2 zero2 h f (agVal m c)
  unfold agAny agFull
  iintro ⟨%f, Hf⟩ Hk
  iapply (wp_store 𝒱₀ (c : Thread nD τ) none Set.univ (m := agM) (r := Rect.unit (s := S64x1024) ![0, 0] S64x1024.size h) (Mk := Finset.univ) (f := f) (Finset.subset_univ _)) $$ Hf
  rw [e f]
  iintro Hf
  iapply Hk
  iexact Hf

/-- The store of the finished chunk, and the first waits for the partial chunks to leave. -/
theorem part21_wp {k v₂ v} (H : iprop(records m ∗ own c 0 15 15 ∗ pend 15 (leftItem c) 3 ∗ past (leftGot m c) 3 ∗ agFull m c ∗ R) ⊢ run c (k ⟨⟩) Q) :
    iprop(records m ∗ own c 0 15 15 ∗ pend 15 (leftItem c) 0 ∗ past (leftGot m c) 0 ∗ agAny c ∗ R) ⊢ run c (k0_part21 (F := F) xM h₀ w1M h₁ w2M h₂ oM h₃ stM h₄ rsM h₅ agM h₆ cc0_scratch3 cc0_scratch4 cc0_scratch5 c v₂ (k0_pay20 (accAt m c 12) (rsLoad m c (peer c 12)) (rsLoad m c (peer c 13)) (rsLoad m c (peer c 14))) v >>= k) Q := by
  rw [k0_part21_eq_skeleton]; unfold k0_part21_skel
  simp only [Prog.lift, Prog.bind_op, Prog.bind_ret, Prog.pure_eq_ret]
  refine go4 m (step_agstore m c (acc_15 m c)) ?_
  refine go3 m (step_left m c (j := 0) (by omega) (sem_send (peer_sem c 0))) ?_
  refine go3 m (step_left m c (j := 1) (by omega) (sem_send (peer_sem c 1))) ?_
  refine go3 m (step_left m c (j := 2) (by omega) (sem_send (peer_sem c 2))) ?_
  exact H

/-- Four more such waits. -/
theorem part22_wp {k v₂} (H : iprop(records m ∗ own c 0 15 15 ∗ pend 15 (leftItem c) 7 ∗ past (leftGot m c) 7 ∗ R) ⊢ run c (k ⟨⟩) Q) :
    iprop(records m ∗ own c 0 15 15 ∗ pend 15 (leftItem c) 3 ∗ past (leftGot m c) 3 ∗ R) ⊢ run c (k0_part22 (F := F) xM h₀ w1M h₁ w2M h₂ oM h₃ stM h₄ rsM h₅ agM h₆ cc0_scratch3 cc0_scratch4 cc0_scratch5 c v₂ >>= k) Q := by
  rw [k0_part22_eq_skeleton]; unfold k0_part22_skel
  simp only [Prog.lift, Prog.bind_op, Prog.bind_ret, Prog.pure_eq_ret]
  refine go3 m (step_left m c (j := 3) (by omega) (sem_send (peer_sem c 3))) ?_
  refine go3 m (step_left m c (j := 4) (by omega) (sem_send (peer_sem c 4))) ?_
  refine go3 m (step_left m c (j := 5) (by omega) (sem_send (peer_sem c 5))) ?_
  refine go3 m (step_left m c (j := 6) (by omega) (sem_send (peer_sem c 6))) ?_
  exact H

/-- Four more. -/
theorem part23_wp {k v₂} (H : ∀ a, iprop(records m ∗ own c 0 15 15 ∗ pend 15 (leftItem c) 11 ∗ past (leftGot m c) 11 ∗ R) ⊢ run c (k a) Q) :
    iprop(records m ∗ own c 0 15 15 ∗ pend 15 (leftItem c) 7 ∗ past (leftGot m c) 7 ∗ R) ⊢ run c (k0_part23 (F := F) xM h₀ w1M h₁ w2M h₂ oM h₃ stM h₄ rsM h₅ agM h₆ cc0_scratch3 cc0_scratch4 cc0_scratch5 c v₂ >>= k) Q := by
  rw [k0_part23_eq_skeleton]; unfold k0_part23_skel
  simp only [Prog.lift, Prog.bind_op, Prog.bind_ret, Prog.pure_eq_ret]
  refine go3 m (step_left m c (j := 7) (by omega) (sem_send (peer_sem c 7))) ?_
  refine go3 m (step_left m c (j := 8) (by omega) (sem_send (peer_sem c 8))) ?_
  refine go3 m (step_left m c (j := 9) (by omega) (sem_send (peer_sem c 9))) ?_
  refine go3 m (step_left m c (j := 10) (by omega) (sem_send (peer_sem c 10))) ?_
  exact H _

/-- Three more. -/
theorem part24_wp {k v₂ a} (H : iprop(records m ∗ own c 0 15 15 ∗ pend 15 (leftItem c) 14 ∗ past (leftGot m c) 14 ∗ R) ⊢ run c (k ⟨⟩) Q) :
    iprop(records m ∗ own c 0 15 15 ∗ pend 15 (leftItem c) 11 ∗ past (leftGot m c) 11 ∗ R) ⊢ run c (k0_part24 (F := F) xM h₀ w1M h₁ w2M h₂ oM h₃ stM h₄ rsM h₅ agM h₆ cc0_scratch3 cc0_scratch4 cc0_scratch5 c v₂ a >>= k) Q := by
  rw [k0_part24_eq_skeleton]; unfold k0_part24_skel
  simp only [Prog.lift, Prog.bind_op, Prog.bind_ret, Prog.pure_eq_ret]
  refine go3 m (step_left m c (j := 11) (by omega) (sem_send (peer_sem c 11))) ?_
  refine go3 m (step_left m c (j := 12) (by omega) (sem_send (peer_sem c 12))) ?_
  refine go3 m (step_left m c (j := 13) (by omega) (sem_send (peer_sem c 13))) ?_
  exact H

/-- The last of them, and the first copies of the finished chunk. -/
theorem part25_wp {k v₂ R'} (G : iprop(records m ∗ own c 0 15 15 ∗ pend 15 (leftItem c) 15 ∗ past (leftGot m c) 15 ∗ R) ⊢ iprop(records m ∗ own c 0 15 15 ∗ pend 15 (fullItem m c) 0 ∗ past (fullSent c) 0 ∗ R'))
    (H : ∀ a, iprop(records m ∗ own c 3 15 15 ∗ pend 15 (fullItem m c) 3 ∗ past (fullSent c) 3 ∗ R') ⊢ run c (k a) Q) :
    iprop(records m ∗ own c 0 15 15 ∗ pend 15 (leftItem c) 14 ∗ past (leftGot m c) 14 ∗ R) ⊢ run c (k0_part25 (F := F) xM h₀ w1M h₁ w2M h₂ oM h₃ stM h₄ rsM h₅ agM h₆ cc0_scratch3 cc0_scratch4 cc0_scratch5 c v₂ >>= k) Q := by
  rw [k0_part25_eq_skeleton]; unfold k0_part25_skel
  simp only [Prog.lift, Prog.bind_op, Prog.bind_ret, Prog.pure_eq_ret]
  refine go3 m (step_left m c (j := 14) (by omega) (sem_send (peer_sem c 14))) ?_
  refine G.trans ?_
  refine go3 m (step_full m c (j := 0) (by omega) (Fin.ext (k0_dev32_eq c)) (sem_send (peer_sem c 0)) (sem_ag (k0_off72_eq c)) (k0_off73_eq c)) ?_
  refine go3 m (step_full m c (j := 1) (by omega) (Fin.ext (k0_dev33_eq c)) (sem_send (peer_sem c 1)) (sem_ag (k0_off72_eq c)) (k0_off73_eq c)) ?_
  refine go3 m (step_full m c (j := 2) (by omega) (Fin.ext (k0_dev34_eq c)) (sem_send (peer_sem c 2)) (sem_ag (k0_off72_eq c)) (k0_off73_eq c)) ?_
  exact H _

/-- Three more copies. -/
theorem part26_wp {k v₂ a} (H : iprop(records m ∗ own c 6 15 15 ∗ pend 15 (fullItem m c) 6 ∗ past (fullSent c) 6 ∗ R) ⊢ run c (k ⟨⟩) Q) :
    iprop(records m ∗ own c 3 15 15 ∗ pend 15 (fullItem m c) 3 ∗ past (fullSent c) 3 ∗ R) ⊢ run c (k0_part26 (F := F) xM h₀ w1M h₁ w2M h₂ oM h₃ stM h₄ rsM h₅ agM h₆ cc0_scratch3 cc0_scratch4 cc0_scratch5 c v₂ a >>= k) Q := by
  rw [k0_part26_eq_skeleton]; unfold k0_part26_skel
  simp only [Prog.lift, Prog.bind_op, Prog.bind_ret, Prog.pure_eq_ret]
  refine go3 m (step_full m c (j := 3) (by omega) (Fin.ext (k0_dev35_eq c)) (sem_send (peer_sem c 3)) (sem_ag (k0_off72_eq c)) (k0_off73_eq c)) ?_
  refine go3 m (step_full m c (j := 4) (by omega) (Fin.ext (k0_dev36_eq c)) (sem_send (peer_sem c 4)) (sem_ag (k0_off72_eq c)) (k0_off73_eq c)) ?_
  refine go3 m (step_full m c (j := 5) (by omega) (Fin.ext (k0_dev37_eq c)) (sem_send (peer_sem c 5)) (sem_ag (k0_off72_eq c)) (k0_off73_eq c)) ?_
  exact H

/-- Four more. -/
theorem part27_wp {k v₂} (H : ∀ a, iprop(records m ∗ own c 10 15 15 ∗ pend 15 (fullItem m c) 10 ∗ past (fullSent c) 10 ∗ R) ⊢ run c (k ⟨a, 1#32⟩) Q) :
    iprop(records m ∗ own c 6 15 15 ∗ pend 15 (fullItem m c) 6 ∗ past (fullSent c) 6 ∗ R) ⊢ run c (k0_part27 (F := F) xM h₀ w1M h₁ w2M h₂ oM h₃ stM h₄ rsM h₅ agM h₆ cc0_scratch3 cc0_scratch4 cc0_scratch5 c v₂ >>= k) Q := by
  rw [k0_part27_eq_skeleton]; unfold k0_part27_skel
  simp only [Prog.lift, Prog.bind_op, Prog.bind_ret, Prog.pure_eq_ret]
  refine go3 m (step_full m c (j := 6) (by omega) (Fin.ext (k0_dev38_eq c)) (sem_send (peer_sem c 6)) (sem_ag (k0_off72_eq c)) (k0_off73_eq c)) ?_
  refine go3 m (step_full m c (j := 7) (by omega) (Fin.ext (k0_dev39_eq c)) (sem_send (peer_sem c 7)) (sem_ag (k0_off72_eq c)) (k0_off73_eq c)) ?_
  refine go3 m (step_full m c (j := 8) (by omega) (Fin.ext (k0_dev40_eq c)) (sem_send (peer_sem c 8)) (sem_ag (k0_off72_eq c)) (k0_off73_eq c)) ?_
  refine go3 m (step_full m c (j := 9) (by omega) (Fin.ext (k0_dev41_eq c)) (sem_send (peer_sem c 9)) (sem_ag (k0_off72_eq c)) (k0_off73_eq c)) ?_
  exact H _

/-- Three more. -/
theorem part28_wp {k v₂ a b} (H : iprop(records m ∗ own c 13 15 15 ∗ pend 15 (fullItem m c) 13 ∗ past (fullSent c) 13 ∗ R) ⊢ run c (k ⟨⟩) Q) :
    iprop(records m ∗ own c 10 15 15 ∗ pend 15 (fullItem m c) 10 ∗ past (fullSent c) 10 ∗ R) ⊢ run c (k0_part28 (F := F) xM h₀ w1M h₁ w2M h₂ oM h₃ stM h₄ rsM h₅ agM h₆ cc0_scratch3 cc0_scratch4 cc0_scratch5 c v₂ a b >>= k) Q := by
  rw [k0_part28_eq_skeleton]; unfold k0_part28_skel
  simp only [Prog.lift, Prog.bind_op, Prog.bind_ret, Prog.pure_eq_ret]
  refine go3 m (step_full m c (j := 10) (by omega) (Fin.ext (k0_dev42_eq c)) (sem_send (peer_sem c 10)) (sem_ag (k0_off72_eq c)) (k0_off73_eq c)) ?_
  refine go3 m (step_full m c (j := 11) (by omega) (Fin.ext (k0_dev43_eq c)) (sem_send (peer_sem c 11)) (sem_ag (k0_off72_eq c)) (k0_off73_eq c)) ?_
  refine go3 m (step_full m c (j := 12) (by omega) (Fin.ext (k0_dev44_eq c)) (sem_send (peer_sem c 12)) (sem_ag (k0_off72_eq c)) (k0_off73_eq c)) ?_
  exact H

/-- The device's own rows of the result, stored from the finished chunk. -/
theorem step_outstore {h hl o o' i hl' i' hx hm} (e : o = ![64 * c.val, 0]) (e' : o' = ![64 * c.val, 0]) {k : PUnit → Prog (TpuEff nD τ sig (Elt F) Λ₀ .tc) α} :
    iprop(agPts c c (agVal m c) ∗ ∃ f, outPts (F := F) c c f)
      ⊢ iprop((agPts c c (agVal m c) ∗ outPts c c (outFull m) -∗ run c (k ⟨⟩) Q)
          -∗ run c (.op (.load agM (Rect.unit (s := S64x1024) ![0, 0] S64x1024.size h).toLoadRect hl) fun v =>
              .op (.load oM (Rect.unit (s := S1024x1024) o S64x1024.size i).toLoadRect hl') fun _ =>
              .op (.store oM (Rect.unit (s := S1024x1024) o' S64x1024.size i') v Finset.univ hx hm) k) Q) := by
  subst e e'
  have e : agM.view.readAt (Elt F) (Rect.unit (s := S64x1024) ![0, 0] S64x1024.size h).toLoadRect (agVal m c) = agVal m c :=
    Memref.readAt_unit_zero (Elt F) cc0_scratch2 zero2 h (agVal m c)
  have hS : (oM.access (rowR c)).setOn Finset.univ ⊆ rowSet c := by rw [whole_access cc0_stg3_0 (rowR c), rowR_set]
  have h1 (f : S1024x1024.Idx → Elt F .bf16) :
      ((((c : Thread nD τ).loc cc0_stg3_0) ↦[rowSet c]{fullShare} ((oM.access (rowR c)).write (Elt F) f (agVal m c) Finset.univ)) : sProp 𝕄)
        = (((c : Thread nD τ).loc cc0_stg3_0) ↦[rowSet c]{fullShare} outFull m) :=
    pointsTo_congr fun j hj => landed_out m c f j hj
  unfold agPts outPts
  iintro ⟨Ha, ⟨%f, Hf⟩⟩ Hk
  iapply (wp_load 𝒱₀ (c : Thread nD τ) none Set.univ (m := agM) (Finset.subset_univ _)) $$ Ha; iintro Ha
  rw [e]
  iapply (wp_load 𝒱₀ (c : Thread nD τ) none Set.univ (m := oM) (S := rowSet c) (by rw [whole_setOn, ← rowR_set])) $$ Hf; iintro Hf
  iapply (wp_store 𝒱₀ (c : Thread nD τ) none Set.univ (m := oM) (r := rowR c) (Mk := Finset.univ) (S := rowSet c) (f := f) hS) $$ Hf; iintro Hf
  ihave Hf := (Entails.of_eq (h1 f)) $$ Hf
  iapply Hk
  isplitl [Ha] <;> iassumption

/-- What the device has behind its copies of the finished chunk. -/
def fullAll : sProp 𝕄 := iprop(past (fullSent (F := F) c) 15 ∗ agPts c c (agVal m c) ∗ outPts c c (outFull m))

/-- From the copies of the finished chunk to the waits for the others'. -/
theorem to_ag : iprop(records m ∗ own c 15 15 15 ∗ pend 15 (fullItem m c) 15 ∗ past (fullSent (F := F) c) 15 ∗ (agPts c c (agVal m c) ∗ outPts c c (outFull m)) ∗ pend 15 (agItem (F := F) c) 0 ∗ R)
    ⊢ iprop(records m ∗ own c 15 15 15 ∗ pend 15 (agItem (F := F) c) 0 ∗ past (agGot m c) 0 ∗ fullAll m c ∗ R) := by
  unfold fullAll
  rw [past_zero]
  iintro ⟨HR, HO, -, Hs, Hst, Hr, HX⟩
  isplitl [HR]; · iexact HR
  isplitl [HO]; · iexact HO
  isplitl [Hr]; · iexact Hr
  isplitr; · iempintro
  isplitr [HX]
  · isplitl [Hs] <;> iassumption
  iexact HX

/-- The last two copies; the device's own rows; the first rows that arrive. -/
theorem part29_wp {k v₂} (H : ∀ a, iprop(records m ∗ own c 15 15 15 ∗ pend 15 (agItem c) 2 ∗ past (agGot m c) 2 ∗ fullAll m c ∗ R) ⊢ run c (k ⟨a, 16#32⟩) Q) :
    iprop(records m ∗ own c 13 15 15 ∗ pend 15 (fullItem m c) 13 ∗ past (fullSent c) 13 ∗ (agPts c c (agVal m c) ∗ ∃ f, outPts (F := F) c c f) ∗ pend 15 (agItem c) 0 ∗ R) ⊢ run c (k0_part29 (F := F) xM h₀ w1M h₁ w2M h₂ oM h₃ stM h₄ rsM h₅ agM h₆ cc0_scratch3 cc0_scratch4 cc0_scratch5 c v₂ >>= k) Q := by
  rw [k0_part29_eq_skeleton]; unfold k0_part29_skel
  simp only [Prog.lift, Prog.bind_op, Prog.bind_ret, Prog.pure_eq_ret]
  refine go3 m (step_full m c (j := 13) (by omega) (Fin.ext (k0_dev45_eq c)) (sem_send (peer_sem c 13)) (sem_ag (k0_off72_eq c)) (k0_off73_eq c)) ?_
  refine go3 m (step_full m c (j := 14) (by omega) (Fin.ext (k0_dev46_eq c)) (sem_send (peer_sem c 14)) (sem_ag (k0_off72_eq c)) (k0_off73_eq c)) ?_
  refine go4 m (step_outstore m c (k0_off74_eq c) (k0_off74_eq c)) ?_
  refine (to_ag m c).trans ?_
  refine go3 m (step_ag m c (j := 0) (by omega) (sem_ag (peer_sem c 0))) ?_
  refine go3 m (step_ag m c (j := 1) (by omega) (sem_ag (peer_sem c 1))) ?_
  exact H _

/-- Four more. -/
theorem part30_wp {k v₂ a b} (H : ∀ a, iprop(records m ∗ own c 15 15 15 ∗ pend 15 (agItem c) 6 ∗ past (agGot m c) 6 ∗ R) ⊢ run c (k ⟨a, 16#32⟩) Q) :
    iprop(records m ∗ own c 15 15 15 ∗ pend 15 (agItem c) 2 ∗ past (agGot m c) 2 ∗ R) ⊢ run c (k0_part30 (F := F) xM h₀ w1M h₁ w2M h₂ oM h₃ stM h₄ rsM h₅ agM h₆ cc0_scratch3 cc0_scratch4 cc0_scratch5 c v₂ a b >>= k) Q := by
  rw [k0_part30_eq_skeleton]; unfold k0_part30_skel
  simp only [Prog.lift, Prog.bind_op, Prog.bind_ret, Prog.pure_eq_ret]
  refine go3 m (step_ag m c (j := 2) (by omega) (sem_ag (peer_sem c 2))) ?_
  refine go3 m (step_ag m c (j := 3) (by omega) (sem_ag (peer_sem c 3))) ?_
  refine go3 m (step_ag m c (j := 4) (by omega) (sem_ag (peer_sem c 4))) ?_
  refine go3 m (step_ag m c (j := 5) (by omega) (sem_ag (peer_sem c 5))) ?_
  exact H _

/-- Four more. -/
theorem part31_wp {k v₂ a b} (H : ∀ a, iprop(records m ∗ own c 15 15 15 ∗ pend 15 (agItem c) 10 ∗ past (agGot m c) 10 ∗ R) ⊢ run c (k ⟨a, 16#32⟩) Q) :
    iprop(records m ∗ own c 15 15 15 ∗ pend 15 (agItem c) 6 ∗ past (agGot m c) 6 ∗ R) ⊢ run c (k0_part31 (F := F) xM h₀ w1M h₁ w2M h₂ oM h₃ stM h₄ rsM h₅ agM h₆ cc0_scratch3 cc0_scratch4 cc0_scratch5 c v₂ a b >>= k) Q := by
  rw [k0_part31_eq_skeleton]; unfold k0_part31_skel
  simp only [Prog.lift, Prog.bind_op, Prog.bind_ret, Prog.pure_eq_ret]
  refine go3 m (step_ag m c (j := 6) (by omega) (sem_ag (peer_sem c 6))) ?_
  refine go3 m (step_ag m c (j := 7) (by omega) (sem_ag (peer_sem c 7))) ?_
  refine go3 m (step_ag m c (j := 8) (by omega) (sem_ag (peer_sem c 8))) ?_
  refine go3 m (step_ag m c (j := 9) (by omega) (sem_ag (peer_sem c 9))) ?_
  exact H _

/-- Four more. -/
theorem part32_wp {k v₂ a b} (H : ∀ a, iprop(records m ∗ own c 15 15 15 ∗ pend 15 (agItem c) 14 ∗ past (agGot m c) 14 ∗ R) ⊢ run c (k ⟨a, 16#32⟩) Q) :
    iprop(records m ∗ own c 15 15 15 ∗ pend 15 (agItem c) 10 ∗ past (agGot m c) 10 ∗ R) ⊢ run c (k0_part32 (F := F) xM h₀ w1M h₁ w2M h₂ oM h₃ stM h₄ rsM h₅ agM h₆ cc0_scratch3 cc0_scratch4 cc0_scratch5 c v₂ a b >>= k) Q := by
  rw [k0_part32_eq_skeleton]; unfold k0_part32_skel
  simp only [Prog.lift, Prog.bind_op, Prog.bind_ret, Prog.pure_eq_ret]
  refine go3 m (step_ag m c (j := 10) (by omega) (sem_ag (peer_sem c 10))) ?_
  refine go3 m (step_ag m c (j := 11) (by omega) (sem_ag (peer_sem c 11))) ?_
  refine go3 m (step_ag m c (j := 12) (by omega) (sem_ag (peer_sem c 12))) ?_
  refine go3 m (step_ag m c (j := 13) (by omega) (sem_ag (peer_sem c 13))) ?_
  exact H _

/-- The last rows, and the first waits for the copies of the finished chunk to leave. -/
theorem part33_wp {k v₂ a b R'} (G : iprop(records m ∗ own c 15 15 15 ∗ pend 15 (agItem c) 15 ∗ past (agGot m c) 15 ∗ R) ⊢ iprop(records m ∗ own c 15 15 15 ∗ pend 15 (endItem c) 0 ∗ past (endGot m c) 0 ∗ R'))
    (H : iprop(records m ∗ own c 15 15 15 ∗ pend 15 (endItem c) 4 ∗ past (endGot m c) 4 ∗ R') ⊢ run c (k ⟨⟩) Q) :
    iprop(records m ∗ own c 15 15 15 ∗ pend 15 (agItem c) 14 ∗ past (agGot m c) 14 ∗ R) ⊢ run c (k0_part33 (F := F) xM h₀ w1M h₁ w2M h₂ oM h₃ stM h₄ rsM h₅ agM h₆ cc0_scratch3 cc0_scratch4 cc0_scratch5 c v₂ a b >>= k) Q := by
  rw [k0_part33_eq_skeleton]; unfold k0_part33_skel
  simp only [Prog.lift, Prog.bind_op, Prog.bind_ret, Prog.pure_eq_ret]
  refine go3 m (step_ag m c (j := 14) (by omega) (sem_ag (peer_sem c 14))) ?_
  refine G.trans ?_
  refine go3 m (step_end m c (j := 0) (by omega) (sem_send (peer_sem c 0))) ?_
  refine go3 m (step_end m c (j := 1) (by omega) (sem_send (peer_sem c 1))) ?_
  refine go3 m (step_end m c (j := 2) (by omega) (sem_send (peer_sem c 2))) ?_
  refine go3 m (step_end m c (j := 3) (by omega) (sem_send (peer_sem c 3))) ?_
  exact H

/-- Five more such waits. -/
theorem part34_wp {k v₂} (H : iprop(records m ∗ own c 15 15 15 ∗ pend 15 (endItem c) 9 ∗ past (endGot m c) 9 ∗ R) ⊢ run c (k ⟨⟩) Q) :
    iprop(records m ∗ own c 15 15 15 ∗ pend 15 (endItem c) 4 ∗ past (endGot m c) 4 ∗ R) ⊢ run c (k0_part34 (F := F) xM h₀ w1M h₁ w2M h₂ oM h₃ stM h₄ rsM h₅ agM h₆ cc0_scratch3 cc0_scratch4 cc0_scratch5 c v₂ >>= k) Q := by
  rw [k0_part34_eq_skeleton]; unfold k0_part34_skel
  simp only [Prog.lift, Prog.bind_op, Prog.bind_ret, Prog.pure_eq_ret]
  refine go3 m (step_end m c (j := 4) (by omega) (sem_send (peer_sem c 4))) ?_
  refine go3 m (step_end m c (j := 5) (by omega) (sem_send (peer_sem c 5))) ?_
  refine go3 m (step_end m c (j := 6) (by omega) (sem_send (peer_sem c 6))) ?_
  refine go3 m (step_end m c (j := 7) (by omega) (sem_send (peer_sem c 7))) ?_
  refine go3 m (step_end m c (j := 8) (by omega) (sem_send (peer_sem c 8))) ?_
  exact H

/-- Five more. -/
theorem part35_wp {k v₂} (H : iprop(records m ∗ own c 15 15 15 ∗ pend 15 (endItem c) 14 ∗ past (endGot m c) 14 ∗ R) ⊢ run c (k ⟨⟩) Q) :
    iprop(records m ∗ own c 15 15 15 ∗ pend 15 (endItem c) 9 ∗ past (endGot m c) 9 ∗ R) ⊢ run c (k0_part35 (F := F) xM h₀ w1M h₁ w2M h₂ oM h₃ stM h₄ rsM h₅ agM h₆ cc0_scratch3 cc0_scratch4 cc0_scratch5 c v₂ >>= k) Q := by
  rw [k0_part35_eq_skeleton]; unfold k0_part35_skel
  simp only [Prog.lift, Prog.bind_op, Prog.bind_ret, Prog.pure_eq_ret]
  refine go3 m (step_end m c (j := 9) (by omega) (sem_send (peer_sem c 9))) ?_
  refine go3 m (step_end m c (j := 10) (by omega) (sem_send (peer_sem c 10))) ?_
  refine go3 m (step_end m c (j := 11) (by omega) (sem_send (peer_sem c 11))) ?_
  refine go3 m (step_end m c (j := 12) (by omega) (sem_send (peer_sem c 12))) ?_
  refine go3 m (step_end m c (j := 13) (by omega) (sem_send (peer_sem c 13))) ?_
  exact H

end Cert.Mlp

end
-- ==== Proof.Deal.lean ====
module

public import proofs.«01_k».proof.Proof.PartsResult

/-! What one device holds at its start, and how the families it holds per other device are regrouped between the phases
    of the kernel. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Families over the other devices -/

/-- A family listed in the order of the waits is the family over the other devices, -/
theorem past_peer (c : Dev nD) (Φ : Dev nD → sProp (MT nD τ sig Unit (Elt F) ℕ UU ℕ)) : past (fun j => Φ (peer c j)) 15 = bigSep (others c) Φ := by
  unfold past; rw [← peer_image]; exact (bigSep_image_of_injOn (peer_inj c) Φ).symm
/-- and so is one listed in the order of the copies. -/
theorem past_tgt (c : Dev nD) (Φ : Dev nD → sProp (MT nD τ sig Unit (Elt F) ℕ UU ℕ)) : past (fun j => Φ (tgt c j)) 15 = bigSep (others c) Φ := by
  unfold past; rw [← tgt_image]; exact (bigSep_image_of_injOn (tgt_inj c) Φ).symm
/-- A family over all devices is one's own member and those of the others. -/
theorem univ_split (c : Dev nD) (Φ : Dev nD → sProp (MT nD τ sig Unit (Elt F) ℕ UU ℕ)) : bigSep Finset.univ Φ = iprop(Φ c ∗ bigSep (others c) Φ) := by
  unfold others; exact bigSep_erase (Finset.mem_univ c)
/-- A family over the groups, in the order of the trips. -/
theorem past_grp (c : Dev nD) (Φ : Fin 8 → sProp (MT nD τ sig Unit (Elt F) ℕ UU ℕ)) : past (fun j => Φ (grp c j)) 8 = bigSep Finset.univ Φ := by
  unfold past; rw [← grp_image c]; exact (bigSep_image_of_injOn (grp_inj c) Φ).symm

/-! ## The start -/

section Start
variable (c : Dev nD)

/-- The rights to pay that device `c` starts with. -/
def toks : sProp 𝕄 :=
  iprop((bigSep Finset.univ fun p : Dev nD => dutyTok ER (barC p) 0 c)
    ∗ (bigSep Finset.univ fun p : Dev nD => dutyTok ER (recvC p c) 0 c)
    ∗ (bigSep Finset.univ fun p : Dev nD => dutyTok ER (agC p c) 0 c)
    ∗ (bigSep Finset.univ fun p : Dev nD => dutyTok ER (sendC c p) 0 p)
    ∗ bigSep Finset.univ fun p : Dev nD => dutyTok ER (sendC c p) 1 p)
/-- Its places at its own semaphores. -/
def poss : sProp 𝕄 :=
  iprop(atPos ER (barC c) 0 ∅ 0
    ∗ (bigSep Finset.univ fun p : Dev nD => atPos ER (sendC c p) 0 ∅ 0)
    ∗ (bigSep Finset.univ fun p : Dev nD => atPos ER (recvC c p) 0 ∅ 0)
    ∗ bigSep Finset.univ fun p : Dev nD => atPos ER (agC c p) 0 ∅ 0)
/-- What the others will raise its semaphores by. -/
def creds : sProp 𝕄 :=
  iprop(cred (tallyAt (barC c) () 15)
    ∗ (bigSep (others c) fun p => cred (tallyAt (recvC c p) () N))
    ∗ bigSep (others c) fun p => cred (tallyAt (agC c p) () N))

/-- Device `c` holds the buffer of its partial products, with any contents. -/
def stAny : sProp 𝕄 := iprop(∃ f : S16x64x1024.Idx → Elt F .bf16, ((c : Thread nD τ).loc cc0_scratch0) ↦[Finset.univ]{fullShare} f)
/-- Device `c` holds its receive buffer, with any contents. -/
def rsAny : sProp 𝕄 := iprop(∃ f : S16x64x1024.Idx → Elt F .bf16, ((c : Thread nD τ).loc cc0_scratch1) ↦[Finset.univ]{fullShare} f)
/-- Device `c` holds its result, with any contents. -/
def outAny : sProp 𝕄 := iprop(∃ f : S1024x1024.Idx → Elt F .bf16, ((c : Thread nD τ).loc cc0_stg3_0) ↦[Finset.univ]{fullShare} f)
/-- Device `c` holds its finished result. -/
def outDone : sProp 𝕄 := ((c : Thread nD τ).loc cc0_stg3_0) ↦[Finset.univ]{fullShare} outFull m

/-- The buffer of partial chunks by its groups, -/
theorem st_split : stAny (F := F) c ⊢ bigSep Finset.univ fun g : Fin 8 => iprop(∃ f : S16x64x1024.Idx → Elt F .bf16, ((c : Thread nD τ).loc cc0_scratch0) ↦[pairSet g]{fullShare} f) := by
  unfold stAny
  iintro ⟨%f, H⟩
  have e : ((((c : Thread nD τ).loc cc0_scratch0) ↦[Finset.univ]{fullShare} f) : sProp 𝕄) ⊢ bigSep Finset.univ fun g : Fin 8 => iprop(∃ f : S16x64x1024.Idx → Elt F .bf16, ((c : Thread nD τ).loc cc0_scratch0) ↦[pairSet g]{fullShare} f) := by
    have h := pointsTo_biUnion (ℓ := (c : Thread nD τ).loc cc0_scratch0) (q := fullShare) (f := f) (Ix := Unit) (Name := ℕ) (U := UU) (Lvl := ℕ) Finset.univ pairSet fun t _ t' _ h => pairSet_disjoint h
    rw [pairSet_cover] at h
    rw [h]
    exact bigSep_mono fun g _ => show (_ : sProp 𝕄) ⊢ iprop(∃ f : S16x64x1024.Idx → Elt F .bf16, ((c : Thread nD τ).loc cc0_scratch0) ↦[pairSet g]{fullShare} f) from by iintro H; iexists f; iexact H
  iapply e $$ H
/-- the buffer of arrived chunks by its slots, -/
theorem rs_split : rsAny (F := F) c ⊢ bigSep Finset.univ fun p : Dev nD => iprop(∃ f, rsPts (F := F) c p f) := by
  unfold rsAny
  iintro ⟨%f, H⟩
  have e : ((((c : Thread nD τ).loc cc0_scratch1) ↦[Finset.univ]{fullShare} f) : sProp 𝕄) ⊢ bigSep Finset.univ fun p : Dev nD => iprop(∃ f, rsPts (F := F) c p f) := by
    have h := pointsTo_biUnion (ℓ := (c : Thread nD τ).loc cc0_scratch1) (q := fullShare) (f := f) (Ix := Unit) (Name := ℕ) (U := UU) (Lvl := ℕ) Finset.univ slotSet fun t _ t' _ h => slotSet_disjoint h
    rw [slotSet_cover] at h
    rw [h]
    exact bigSep_mono fun p _ => show rsPts (F := F) c p f ⊢ iprop(∃ f, rsPts (F := F) c p f) from by iintro H; iexists f; iexact H
  iapply e $$ H
/-- and the result by its chunks. -/
theorem out_split : outAny (F := F) c ⊢ bigSep Finset.univ fun p : Dev nD => iprop(∃ f, outPts (F := F) c p f) := by
  unfold outAny
  iintro ⟨%f, H⟩
  have e : ((((c : Thread nD τ).loc cc0_stg3_0) ↦[Finset.univ]{fullShare} f) : sProp 𝕄) ⊢ bigSep Finset.univ fun p : Dev nD => iprop(∃ f, outPts (F := F) c p f) := by
    have h := pointsTo_biUnion (ℓ := (c : Thread nD τ).loc cc0_stg3_0) (q := fullShare) (f := f) (Ix := Unit) (Name := ℕ) (U := UU) (Lvl := ℕ) Finset.univ rowSet fun t _ t' _ h => rowSet_disjoint h
    rw [rowSet_cover] at h
    rw [h]
    exact bigSep_mono fun p _ => show outPts (F := F) c p f ⊢ iprop(∃ f, outPts (F := F) c p f) from by iintro H; iexists f; iexact H
  iapply e $$ H

include m in
/-- The slots of the buffer of arrived chunks, together again. -/
theorem rs_join : (bigSep Finset.univ fun p : Dev nD => iprop(∃ f, rsPts (F := F) c p f)) ⊢ rsAny (F := F) c := by
  haveI : Nonempty (S16x64x1024.Idx → Elt F .bf16) := ⟨rsFull m c⟩
  refine (BI.bigSep_exists_pi (Y := fun _ => S16x64x1024.Idx → Elt F .bf16) Finset.univ fun (p : Dev nD) (f : S16x64x1024.Idx → Elt F .bf16) => rsPts (F := F) c p f).trans ?_
  iintro ⟨%fs, H⟩
  have e := pointsTo_biUnion_join (ℓ := (c : Thread nD τ).loc cc0_scratch1) (q := fullShare) (Ix := Unit) (Name := ℕ) (U := UU) (Lvl := ℕ) Finset.univ slotSet fs (fs c) fun t _ t' _ h => slotSet_disjoint h
  rw [slotSet_cover] at e
  have e' : (bigSep Finset.univ fun p : Dev nD => rsPts (F := F) c p (fs p)) ⊢ rsAny (F := F) c := e.trans (by
    unfold rsAny; iintro ⟨%g, -, H⟩; iexists g; iexact H)
  iapply e' $$ H
/-- The slots of the buffer of partial chunks, together again. -/
theorem st_join : (bigSep Finset.univ fun p : Dev nD => stPts c p (stageFull m c)) ⊢ stAny (F := F) c := by
  have h := pointsTo_biUnion (ℓ := (c : Thread nD τ).loc cc0_scratch0) (q := fullShare) (f := stageFull m c) (Ix := Unit) (Name := ℕ) (U := UU) (Lvl := ℕ) Finset.univ slotSet fun t _ t' _ h => slotSet_disjoint h
  rw [slotSet_cover] at h
  refine (show (bigSep Finset.univ fun p : Dev nD => stPts c p (stageFull m c)) ⊢ _ from Entails.of_eq h.symm).trans ?_
  unfold stAny; iintro H; iexists (stageFull m c); iexact H
/-- The sixteen shares of the finished chunk, together. -/
theorem ag_shares : agFull m c = bigSep Finset.univ fun p : Dev nD => agPts c p (agVal m c) :=
  ShareLeaves.pointsTo_leaves (ℓ := (c : Thread nD τ).loc cc0_scratch2) (Ix := Unit) (Name := ℕ) (U := UU) (Lvl := ℕ) Finset.univ (agVal m c) 4 fullShare
/-- The sixteen chunks of the result, together. -/
theorem out_join : outDone m c = bigSep Finset.univ fun p : Dev nD => outPts c p (outFull m) := by
  have h := pointsTo_biUnion (ℓ := (c : Thread nD τ).loc cc0_stg3_0) (q := fullShare) (f := outFull m) (Ix := Unit) (Name := ℕ) (U := UU) (Lvl := ℕ) Finset.univ rowSet fun t _ t' _ h => rowSet_disjoint h
  rw [rowSet_cover] at h
  exact h

/-! ### The lists of the phases, as families over the other devices -/

/-- What the barrier signals take, sorted by kind instead of by turn. -/
theorem sig_eq : pend 15 (sigItem (F := F) c) 0 = iprop((bigSep (others c) fun p => dutyTok ER (barC p) 0 c)
    ∗ (bigSep (others c) fun p => iprop(∃ f, rsPts (F := F) c p f)) ∗ bigSep (others c) fun p => iprop(∃ f, outPts (F := F) c p f)) := by
  rw [pend_zero]
  refine (past_peer c fun p => iprop(dutyTok ER (barC p) 0 c ∗ (∃ f, rsPts (F := F) c p f) ∗ ∃ f, outPts (F := F) c p f)).trans ?_
  rw [bigSep_sep', bigSep_sep']
/-- What the trips take: the buffer of the partial products, cut into the groups' slots. -/
theorem grp_eq : pend 8 (grpItem (F := F) c) 0 = bigSep Finset.univ fun g : Fin 8 => iprop(∃ f : S16x64x1024.Idx → Elt F .bf16, ((c : Thread nD τ).loc cc0_scratch0) ↦[pairSet g]{fullShare} f) := by
  rw [pend_zero]
  exact past_grp c fun g => iprop(∃ f : S16x64x1024.Idx → Elt F .bf16, ((c : Thread nD τ).loc cc0_scratch0) ↦[pairSet g]{fullShare} f)
/-- The duties of the first sends, sorted by kind. -/
theorem tok_eq : pend 15 (partTok (F := F) c) 0 = iprop((bigSep (others c) fun p => dutyTok ER (recvC p c) 0 c) ∗ bigSep (others c) fun p => dutyTok ER (sendC c p) 0 p) := by
  rw [pend_zero]
  refine (past_tgt c fun p => iprop(dutyTok ER (recvC p c) 0 c ∗ dutyTok ER (sendC c p) 0 p)).trans ?_
  rw [bigSep_sep']
/-- What the first receives take, sorted by kind. -/
theorem recv_eq : pend 15 (recvItem (F := F) c) 0 = iprop((bigSep (others c) fun p => cred (tallyAt (recvC c p) () N)) ∗ bigSep (others c) fun p => atPos ER (recvC c p) 0 ∅ 0) := by
  rw [pend_zero]
  refine (past_peer c fun p => iprop(cred (tallyAt (recvC c p) () N) ∗ atPos ER (recvC c p) 0 ∅ 0)).trans ?_
  rw [bigSep_sep']
/-- What the first receives give back, sorted by kind. -/
theorem recvGot_eq : past (recvGot m c) 15 = iprop((bigSep (others c) fun p => rsPts c p (rsFull m c)) ∗ bigSep (others c) fun p => atPos ER (recvC c p) 1 ∅ 0) := by
  refine (past_peer c fun p => iprop(rsPts c p (rsFull m c) ∗ atPos ER (recvC c p) 1 ∅ 0)).trans ?_
  rw [bigSep_sep']
/-- What the waits for the first sends take, sorted by kind. -/
theorem left_eq : pend 15 (leftItem (F := F) c) 0 = iprop((bigSep (others c) fun p => cred (tallyAt (sendC c p) () N)) ∗ bigSep (others c) fun p => atPos ER (sendC c p) 0 ∅ 0) := by
  rw [pend_zero]
  refine (past_peer c fun p => iprop(cred (tallyAt (sendC c p) () N) ∗ atPos ER (sendC c p) 0 ∅ 0)).trans ?_
  rw [bigSep_sep']
/-- The credits of the first sends. -/
theorem sent_eq : past (partSent (F := F) c) 15 = bigSep (others c) fun p => cred (tallyAt (sendC c p) () N) :=
  past_tgt c fun p => cred (tallyAt (sendC c p) () N)
/-- What the waits for the first sends give back, sorted by kind. -/
theorem leftGot_eq : past (leftGot m c) 15 = iprop((bigSep (others c) fun p => stPts c p (stageFull m c))
    ∗ (bigSep (others c) fun p => atPos ER (sendC c p) 1 ∅ 0) ∗ bigSep (others c) fun p => reached ER (sendC c p) 1) := by
  refine (past_peer c fun p => iprop(stPts c p (stageFull m c) ∗ atPos ER (sendC c p) 1 ∅ 0 ∗ reached ER (sendC c p) 1)).trans ?_
  rw [bigSep_sep', bigSep_sep']
/-- The rows of the other devices' results that are lent to device `c`. -/
theorem outItem_eq : pend 15 (outItem (F := F) c) 0 = bigSep (others c) fun p => iprop(∃ f, outPts (F := F) p c f) := by
  rw [pend_zero]; exact past_peer c fun p => iprop(∃ f, outPts (F := F) p c f)
/-- What the second sends take, sorted by kind. -/
theorem full_eq : pend 15 (fullItem m c) 0 = iprop((bigSep (others c) fun p => agPts c p (agVal m c)) ∗ (bigSep (others c) fun p => iprop(∃ f, outPts (F := F) p c f))
    ∗ (bigSep (others c) fun p => dutyTok ER (agC p c) 0 c) ∗ (bigSep (others c) fun p => dutyTok ER (sendC c p) 1 p) ∗ bigSep (others c) fun p => reached ER (sendC c p) 1) := by
  rw [pend_zero]
  refine (past_peer c fun p => iprop(agPts c p (agVal m c) ∗ (∃ f, outPts (F := F) p c f) ∗ dutyTok ER (agC p c) 0 c
    ∗ dutyTok ER (sendC c p) 1 p ∗ reached ER (sendC c p) 1)).trans ?_
  rw [bigSep_sep', bigSep_sep', bigSep_sep', bigSep_sep']
/-- The credits of the second sends. -/
theorem fullSent_eq : past (fullSent (F := F) c) 15 = bigSep (others c) fun p => cred (tallyAt (sendC c p) () N) :=
  past_peer c fun p => cred (tallyAt (sendC c p) () N)
/-- What the second receives take, sorted by kind. -/
theorem ag_eq : pend 15 (agItem (F := F) c) 0 = iprop((bigSep (others c) fun p => cred (tallyAt (agC c p) () N)) ∗ bigSep (others c) fun p => atPos ER (agC c p) 0 ∅ 0) := by
  rw [pend_zero]
  refine (past_peer c fun p => iprop(cred (tallyAt (agC c p) () N) ∗ atPos ER (agC c p) 0 ∅ 0)).trans ?_
  rw [bigSep_sep']
/-- What the second receives give back, sorted by kind. -/
theorem agGot_eq : past (agGot m c) 15 = iprop((bigSep (others c) fun p => outPts c p (outFull m)) ∗ bigSep (others c) fun p => atPos ER (agC c p) 1 ∅ 0) := by
  refine (past_peer c fun p => iprop(outPts c p (outFull m) ∗ atPos ER (agC c p) 1 ∅ 0)).trans ?_
  rw [bigSep_sep']
/-- What the waits for the second sends take, sorted by kind. -/
theorem end_eq : pend 15 (endItem (F := F) c) 0 = iprop((bigSep (others c) fun p => cred (tallyAt (sendC c p) () N)) ∗ bigSep (others c) fun p => atPos ER (sendC c p) 1 ∅ 0) := by
  rw [pend_zero]
  refine (past_peer c fun p => iprop(cred (tallyAt (sendC c p) () N) ∗ atPos ER (sendC c p) 1 ∅ 0)).trans ?_
  rw [bigSep_sep']
/-- What the waits for the second sends give back, sorted by kind. -/
theorem endGot_eq : past (endGot m c) 15 = iprop((bigSep (others c) fun p => agPts c p (agVal m c)) ∗ bigSep (others c) fun p => atPos ER (sendC c p) 2 ∅ 0) := by
  refine (past_peer c fun p => iprop(agPts c p (agVal m c) ∗ atPos ER (sendC c p) 2 ∅ 0)).trans ?_
  rw [bigSep_sep']

/-! ### What lies by while a phase runs -/

/-- The slot and the semaphores that device `c` has for itself: no copy uses them. -/
def selfPart : sProp 𝕄 :=
  iprop((∃ f, rsPts (F := F) c c f) ∗ atPos ER (sendC c c) 0 ∅ 0 ∗ atPos ER (recvC c c) 0 ∅ 0 ∗ atPos ER (agC c c) 0 ∅ 0)
/-- The rights to send the finished chunk, and its place in the device's own result. -/
def resPart : sProp 𝕄 :=
  iprop((bigSep (others c) fun p => dutyTok ER (agC p c) 0 c) ∗ (bigSep (others c) fun p => dutyTok ER (sendC c p) 1 p)
    ∗ (∃ f, outPts (F := F) c c f) ∗ pend 15 (agItem (F := F) c) 0 ∗ selfPart (F := F) c)
/-- The places at the leaving copies' semaphores, and the above. -/
def latePart : sProp 𝕄 := iprop((bigSep (others c) fun p => atPos ER (sendC c p) 0 ∅ 0) ∗ resPart (F := F) c)
/-- What the trips and the sum leave. -/
def sumPart : sProp 𝕄 := iprop(xPts m c ∗ wPts m c ∗ atPos ER (barC c) 1 ∅ 0 ∗ stPts c c (stageFull m c) ∗ past (recvGot m c) 15)
/-- What lies by from the copies of the finished chunk on. -/
def restPart : sProp 𝕄 :=
  iprop(sumPart m c ∗ (bigSep (others c) fun p => stPts c p (stageFull m c)) ∗ (bigSep (others c) fun p => atPos ER (sendC c p) 1 ∅ 0) ∗ selfPart (F := F) c)

/-- The start, sorted by phase. -/
theorem deal_start : iprop(toks (F := F) c ∗ poss (F := F) c ∗ creds (F := F) c ∗ xPts m c ∗ wPts m c ∗ outAny (F := F) c ∗ stAny (F := F) c ∗ rsAny (F := F) c ∗ agAny (F := F) c)
    ⊢ iprop(pend 15 (sigItem (F := F) c) 0 ∗ wPts m c ∗ xPts m c ∗ pend 8 (grpItem (F := F) c) 0 ∗ barIn (F := F) c ∗ pend 15 (recvItem (F := F) c) 0
        ∗ agAny (F := F) c ∗ latePart (F := F) c) := by
  unfold toks poss creds barIn latePart resPart selfPart
  rw [sig_eq, grp_eq, tok_eq, recv_eq, ag_eq]
  simp only [univ_split c]
  iintro ⟨⟨⟨-, Ht1⟩, ⟨-, Ht2⟩, ⟨-, Ht3⟩, ⟨-, Ht4⟩, -, Ht5⟩, ⟨Hb, ⟨Hs0, Hs⟩, ⟨Hr0, Hr⟩, Ha0, Ha⟩, ⟨Hcb, Hcr, Hca⟩, Hx, Hw, Ho, Hst, Hrs, Hag⟩
  ihave Hst' := (st_split c) $$ Hst
  ihave Hrs' := ((rs_split (F := F) c).trans (Entails.of_eq (univ_split c _))) $$ Hrs
  icases Hrs' with ⟨Hrs0, Hrs⟩
  ihave Ho' := ((out_split (F := F) c).trans (Entails.of_eq (univ_split c _))) $$ Ho
  icases Ho' with ⟨Ho0, Ho⟩
  isplitl [Ht1 Hrs Ho]
  · isplitl [Ht1]; · iexact Ht1
    isplitl [Hrs]; · iexact Hrs
    iexact Ho
  isplitl [Hw]; · iexact Hw
  isplitl [Hx]; · iexact Hx
  isplitl [Hst']; · iexact Hst'
  isplitl [Hcb Hb Ht2 Ht4]
  · isplitl [Hcb]; · iexact Hcb
    isplitl [Hb]; · iexact Hb
    isplitl [Ht2]; · iexact Ht2
    iexact Ht4
  isplitl [Hcr Hr]
  · isplitl [Hcr]; · iexact Hcr
    iexact Hr
  isplitl [Hag]; · iexact Hag
  isplitl [Hs]; · iexact Hs
  isplitl [Ht3]; · iexact Ht3
  isplitl [Ht5]; · iexact Ht5
  isplitl [Ho0]; · iexact Ho0
  isplitl [Hca Ha]
  · isplitl [Hca]; · iexact Hca
    iexact Ha
  isplitl [Hrs0]; · iexact Hrs0
  isplitl [Hs0]; · iexact Hs0
  isplitl [Hr0]; · iexact Hr0
  iexact Ha0

variable {R : sProp (MT nD τ sig Unit (Elt F) ℕ UU ℕ)}

/-- From the signals to the trips. -/
theorem to_mid : iprop(records m ∗ own c 0 0 15 ∗ pend 15 (sigItem (F := F) c) 15 ∗ wPts m c ∗ xPts m c ∗ pend 8 (grpItem (F := F) c) 0 ∗ barIn (F := F) c ∗ R)
    ⊢ iprop(records m ∗ mid m c 0 0 0 ∗ barIn (F := F) c ∗ wPts m c ∗ R) := by
  unfold mid
  rw [pend_end, pend_zero 0, past_zero]
  iintro ⟨Hr, Ho, -, Hw, Hx, Hg, Hb, HR⟩
  isplitl [Hr]; · iexact Hr
  isplitl [Ho Hx Hg]
  · isplitl [Ho]; · iexact Ho
    isplitl [Hx]; · iexact Hx
    isplitl [Hg]; · iexact Hg
    iempintro
  isplitl [Hb]; · iexact Hb
  isplitl [Hw]; · iexact Hw
  iexact HR

/-- From the sum to the waits for the partial chunks' departures. -/
theorem to_left : iprop(records m ∗ own c 0 15 15 ∗ pend 15 (recvItem (F := F) c) 15 ∗ past (recvGot m c) 15 ∗ agAny (F := F) c ∗ sentAll m c ∗ barOut (F := F) c ∗ wPts m c ∗ latePart (F := F) c)
    ⊢ iprop(records m ∗ own c 0 15 15 ∗ pend 15 (leftItem (F := F) c) 0 ∗ past (leftGot m c) 0 ∗ agAny (F := F) c ∗ sumPart m c ∗ pend 15 (outItem (F := F) c) 0 ∗ resPart (F := F) c) := by
  unfold sentAll barOut latePart sumPart
  rw [past_zero, left_eq, sent_eq]
  iintro ⟨Hr, Ho, -, Hgot, Hag, ⟨Hx, Hsent, Hst⟩, ⟨Hb, Hout⟩, Hw, Hs, Hres⟩
  isplitl [Hr]; · iexact Hr
  isplitl [Ho]; · iexact Ho
  isplitl [Hsent Hs]
  · isplitl [Hsent]; · iexact Hsent
    iexact Hs
  isplitr; · iempintro
  isplitl [Hag]; · iexact Hag
  isplitl [Hx Hw Hb Hst Hgot]
  · isplitl [Hx]; · iexact Hx
    isplitl [Hw]; · iexact Hw
    isplitl [Hb]; · iexact Hb
    isplitl [Hst]; · iexact Hst
    iexact Hgot
  isplitl [Hout]; · iexact Hout
  iexact Hres

/-- From there to the copies of the finished chunk. -/
theorem to_full : iprop(records m ∗ own c 0 15 15 ∗ pend 15 (leftItem (F := F) c) 15 ∗ past (leftGot m c) 15 ∗ agFull m c ∗ sumPart m c ∗ pend 15 (outItem (F := F) c) 0 ∗ resPart (F := F) c)
    ⊢ iprop(records m ∗ own c 0 15 15 ∗ pend 15 (fullItem m c) 0 ∗ past (fullSent (F := F) c) 0 ∗ (agPts c c (agVal m c) ∗ ∃ f, outPts (F := F) c c f)
        ∗ pend 15 (agItem (F := F) c) 0 ∗ restPart m c) := by
  unfold resPart restPart
  rw [past_zero, leftGot_eq, ag_shares, univ_split c, outItem_eq, full_eq]
  iintro ⟨Hr, Ho, -, ⟨Hst, Hs, Hre⟩, ⟨Ha0, Ha⟩, Hsum, Hout, Ht3, Ht5, Ho0, Hag, Hself⟩
  isplitl [Hr]; · iexact Hr
  isplitl [Ho]; · iexact Ho
  isplitl [Ha Hout Ht3 Ht5 Hre]
  · isplitl [Ha]; · iexact Ha
    isplitl [Hout]; · iexact Hout
    isplitl [Ht3]; · iexact Ht3
    isplitl [Ht5]; · iexact Ht5
    iexact Hre
  isplitr; · iempintro
  isplitl [Ha0 Ho0]
  · isplitl [Ha0]; · iexact Ha0
    iexact Ho0
  isplitl [Hag]; · iexact Hag
  isplitl [Hsum]; · iexact Hsum
  isplitl [Hst]; · iexact Hst
  isplitl [Hs]; · iexact Hs
  iexact Hself

/-- What a device holds besides when it waits for the last departures. -/
def lastPart : sProp 𝕄 :=
  iprop(past (agGot m c) 15 ∗ agPts c c (agVal m c) ∗ outPts c c (outFull m) ∗ sumPart m c ∗ (bigSep (others c) fun p => stPts c p (stageFull m c)) ∗ selfPart (F := F) c)

/-- From the waits for the finished chunks to those for the departures. -/
theorem to_end : iprop(records m ∗ own c 15 15 15 ∗ pend 15 (agItem (F := F) c) 15 ∗ past (agGot m c) 15 ∗ fullAll m c ∗ restPart m c)
    ⊢ iprop(records m ∗ own c 15 15 15 ∗ pend 15 (endItem (F := F) c) 0 ∗ past (endGot m c) 0 ∗ lastPart m c) := by
  unfold fullAll restPart lastPart
  rw [past_zero, end_eq, fullSent_eq]
  iintro ⟨Hr, Ho, -, Hgot, ⟨Hsent, Ha0, Ho0⟩, Hsum, Hst, Hs, Hself⟩
  isplitl [Hr]; · iexact Hr
  isplitl [Ho]; · iexact Ho
  isplitl [Hsent Hs]
  · isplitl [Hsent]; · iexact Hsent
    iexact Hs
  isplitr; · iempintro
  isplitl [Hgot]; · iexact Hgot
  isplitl [Ha0]; · iexact Ha0
  isplitl [Ho0]; · iexact Ho0
  isplitl [Hsum]; · iexact Hsum
  isplitl [Hst]; · iexact Hst
  iexact Hself

end Start

end Cert.Mlp

end
-- ==== Proof.Body.lean ====
module

public import proofs.«01_k».proof.Proof.Deal

/-! The whole kernel on one device: its parts, one after the other. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (c : Dev nD) {Q : PUnit → sProp (MT nD τ sig Unit (Elt F) ℕ UU ℕ)} {R A B C D E G : sProp (MT nD τ sig Unit (Elt F) ℕ UU ℕ)}
  {h₀ : xM.IsWhole} {h₁ : w1M.IsWhole} {h₂ : w2M.IsWhole} {h₃ : oM.IsWhole} {h₄ : stM.IsWhole} {h₅ : rsM.IsWhole} {h₆ : agM.IsWhole}

/-- The receives' part is moved forward, past what the sends leave. -/
theorem swap_recv : iprop(records m ∗ A ∗ B ∗ C ∗ D ∗ E ∗ G ∗ pend 15 (recvItem (F := F) c) 0 ∗ R) ⊢ iprop(records m ∗ A ∗ B ∗ C ∗ D ∗ pend 15 (recvItem (F := F) c) 0 ∗ E ∗ G ∗ R) := by
  iintro ⟨Hr, HA, HB, HC, HD, HE, HG, H, HR⟩
  isplitl [Hr]; · iexact Hr
  isplitl [HA]; · iexact HA
  isplitl [HB]; · iexact HB
  isplitl [HC]; · iexact HC
  isplitl [HD]; · iexact HD
  isplitl [H]; · iexact H
  isplitl [HE]; · iexact HE
  isplitl [HG]; · iexact HG
  iexact HR
/-- The buffer of the finished chunk is moved forward. -/
theorem swap_ag : iprop(records m ∗ A ∗ B ∗ C ∗ D ∗ E ∗ G ∗ agAny (F := F) c ∗ R) ⊢ iprop(records m ∗ A ∗ B ∗ C ∗ agAny (F := F) c ∗ D ∗ E ∗ G ∗ R) := by
  iintro ⟨Hr, HA, HB, HC, HD, HE, HG, H, HR⟩
  isplitl [Hr]; · iexact Hr
  isplitl [HA]; · iexact HA
  isplitl [HB]; · iexact HB
  isplitl [HC]; · iexact HC
  isplitl [H]; · iexact H
  isplitl [HD]; · iexact HD
  isplitl [HE]; · iexact HE
  isplitl [HG]; · iexact HG
  iexact HR

set_option maxHeartbeats 4000000 in
/-- The kernel on device `c`, from the start to the last wait. -/
theorem body_run (H : iprop(records m ∗ own c 15 15 15 ∗ pend 15 (endItem (F := F) c) 15 ∗ past (endGot m c) 15 ∗ lastPart m c) ⊢ |={Set.univ}=> Q ⟨⟩) :
    iprop(records m ∗ own c 0 0 0 ∗ pend 15 (sigItem (F := F) c) 0 ∗ wPts m c ∗ xPts m c ∗ pend 8 (grpItem (F := F) c) 0 ∗ barIn (F := F) c ∗ pend 15 (recvItem (F := F) c) 0
        ∗ agAny (F := F) c ∗ latePart (F := F) c)
      ⊢ run c (cc0_body (F := F) xM h₀ w1M h₁ w2M h₂ oM h₃ stM h₄ rsM h₅ agM h₆ cc0_scratch3 cc0_scratch4 cc0_scratch5) Q := by
  rw [cc0_body_eq_skeleton]; unfold cc0_body_skel
  refine part1_wp m c fun a b => ?_
  try dsimp only
  refine part2_wp m c fun a b => ?_
  try dsimp only
  refine part3_wp m c fun a b d e => ?_
  refine (to_mid m c).trans ?_
  try dsimp only
  refine part4_wp m c fun a b => ?_
  try dsimp only
  refine part5_wp m c fun a => ?_
  try dsimp only
  refine part6_wp m c fun a => ?_
  try dsimp only
  refine part7_wp m c fun a b d e => ?_
  try dsimp only
  refine part8_wp m c fun a b => ?_
  try dsimp only
  refine part9_wp m c fun a => ?_
  try dsimp only
  refine part10_wp m c fun a => ?_
  try dsimp only
  refine part11_wp m c fun a b d => ?_
  try dsimp only
  refine part12_wp m c fun a => ?_
  try dsimp only
  refine part13_wp m c fun a b d => ?_
  try dsimp only
  refine (swap_recv m c).trans ?_
  refine part14_wp m c fun a => ?_
  try dsimp only
  refine part15_wp m c fun a => ?_
  try dsimp only
  refine part16_wp m c ?_
  try dsimp only
  refine part17_wp m c fun a b => ?_
  try dsimp only
  refine part18_wp m c fun a => ?_
  try dsimp only
  refine part19_wp m c ?_
  try dsimp only
  refine (swap_ag m c).trans ?_
  refine part20_wp m c fun a => ?_
  refine (to_left m c).trans ?_
  try dsimp only
  refine part21_wp m c ?_
  try dsimp only
  refine part22_wp m c ?_
  try dsimp only
  refine part23_wp m c fun a => ?_
  try dsimp only
  refine part24_wp m c ?_
  try dsimp only
  refine part25_wp m c (to_full m c) fun a => ?_
  try dsimp only
  refine part26_wp m c ?_
  try dsimp only
  refine part27_wp m c fun a => ?_
  try dsimp only
  refine part28_wp m c ?_
  try dsimp only
  refine part29_wp m c fun a => ?_
  try dsimp only
  refine part30_wp m c fun a => ?_
  try dsimp only
  refine part31_wp m c fun a => ?_
  try dsimp only
  refine part32_wp m c fun a => ?_
  try dsimp only
  refine part33_wp m c (to_end m c) ?_
  try dsimp only
  refine part34_wp m c ?_
  try dsimp only
  refine part35_wp m c ?_
  simp only [Prog.lift, Prog.bind_op, Prog.bind_ret, Prog.pure_eq_ret]
  refine go3 m (step_end m c (j := 14) (by omega) (sem_send (peer_sem c 14))) ?_
  unfold run
  rw [wp_ret]
  exact H

end Cert.Mlp

end
-- ==== Proof.Credit.lean ====
module

public import proofs.«01_k».proof.Proof.Deal

/-! The launch: the rights and the places as they are made, dealt to the devices; what the others owe each device's
    semaphores. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## What all owe together -/

/-- One unit for each of the fifteen turns, looked up at the cell of device `q`: one turn's unit if `q` is among the turns' devices. -/
theorem sum_owed (f : Dev nD → GSem nD τ sig) (e : ℕ → Dev nD) (n : ℕ) (S : Finset (Dev nD)) (hi : Set.InjOn e (Finset.range 15 : Set ℕ))
    (hS : (Finset.range 15).image e = S) (g : GSem nD τ sig) :
    (∑ j ∈ Finset.Ico 0 15, tallyAt (f (e j)) () n : CellTallies nD τ sig Unit) g () = ∑ q ∈ S, if f q = g then n else 0 := by
  rw [Finset.sum_apply, Finsupp.finset_sum_apply, ← hS, Finset.sum_image (fun a ha b hb h => hi ha hb h), Nat.Ico_zero_eq_range]
  refine Finset.sum_congr rfl fun j _ => ?_
  rw [tallyAt_apply]
  by_cases h : f (e j) = g
  · rw [if_pos ⟨h.symm, rfl⟩, if_pos h]
  · rw [if_neg fun h' => h h'.1.symm, if_neg h]

/-- Units at other cells are not counted. -/
theorem sum_none (f : Dev nD → GSem nD τ sig) (n : ℕ) (S : Finset (Dev nD)) (g : GSem nD τ sig) (h : ∀ q, f q ≠ g) :
    (∑ q ∈ S, if f q = g then n else 0) = 0 := Finset.sum_eq_zero fun q _ => if_neg (h q)

/-- What a device owes at the start, looked up at one cell: a sum for each of its three kinds of signal. -/
theorem owed_at (d : Dev nD) (g : GSem nD τ sig) :
    owed d 0 0 0 g () = (∑ q ∈ others d, if agC q d = g then N else 0) + (∑ q ∈ others d, if recvC q d = g then N else 0) + ∑ q ∈ others d, if barC q = g then 1 else 0 := by
  unfold owed OA OV OB
  rw [Pi.add_apply, Finsupp.add_apply, Pi.add_apply, Finsupp.add_apply]
  rw [sum_owed (fun q => agC q d) (peer d) N (others d) (peer_inj d) (peer_image d), sum_owed (fun q => recvC q d) (tgt d) N (others d) (tgt_inj d) (tgt_image d),
    sum_owed (fun q => barC q) (peer d) 1 (others d) (peer_inj d) (peer_image d)]

/-- Semaphores of different uses are different cells. -/
theorem use_ne {c d : Dev nD} {s t : SemLoc sig} (h : useOf s ≠ useOf t) : (((c : Thread nD τ), s) : GSem nD τ sig) ≠ ((d : Thread nD τ), t) :=
  fun h' => h (congrArg (fun g : GSem nD τ sig => useOf g.2) h')

/-- Barrier cells are told apart by their device. -/
theorem bar_iff {a b : Dev nD} : Iff (barC a = barC b) (a = b) :=
  ⟨fun h => congrArg (fun g : GSem nD τ sig => g.1.1) h, fun h => h ▸ rfl⟩
/-- Receive cells of the partial products are told apart by their device and the sender. -/
theorem recv_iff {a b p q : Dev nD} : Iff (recvC a p = recvC b q) (a = b ∧ p = q) := by
  refine ⟨fun h => ⟨congrArg (fun g : GSem nD τ sig => g.1.1) h, ?_⟩, fun h => by rw [h.1, h.2]⟩
  have := congrArg (fun g : GSem nD τ sig => useOf g.2) h
  dsimp only at this
  rw [useOf_recv, useOf_recv] at this
  exact Use.recv.inj this
/-- Receive cells of the finished chunks are told apart likewise. -/
theorem ag_iff {a b p q : Dev nD} : Iff (agC a p = agC b q) (a = b ∧ p = q) := by
  refine ⟨fun h => ⟨congrArg (fun g : GSem nD τ sig => g.1.1) h, ?_⟩, fun h => by rw [h.1, h.2]⟩
  have := congrArg (fun g : GSem nD τ sig => useOf g.2) h
  dsimp only at this
  rw [useOf_ag, useOf_ag] at this
  exact Use.ag.inj this

/-- A receive semaphore is not the barrier. -/
theorem use_bar_recv (p : Dev nD) : useOf (.dma (recvS p)) ≠ useOf (.reg barS) := by rw [useOf_recv]; exact fun h => by cases h
/-- A receive semaphore of the finished chunks is not the barrier. -/
theorem use_bar_ag (p : Dev nD) : useOf (.dma (agS p)) ≠ useOf (.reg barS) := by rw [useOf_ag]; exact fun h => by cases h
/-- The receive semaphores of the two exchanges are different. -/
theorem use_recv_ag (p q : Dev nD) : useOf (.dma (agS p)) ≠ useOf (.dma (recvS q)) := by rw [useOf_ag, useOf_recv]; exact fun h => by cases h

/-- Device `d` owes one unit to the barrier of each other device. -/
theorem owed_at_bar (d c : Dev nD) : owed d 0 0 0 (barC c) () = if c ∈ others d then 1 else 0 := by
  rw [owed_at, sum_none (fun q => agC q d) N _ _ (fun q => use_ne (use_bar_ag d)), sum_none (fun q => recvC q d) N _ _ (fun q => use_ne (use_bar_recv d)), Nat.zero_add,
    ← Finset.sum_ite_eq' (others d) c fun _ => 1]
  exact Finset.sum_congr rfl fun q _ => if_congr bar_iff rfl rfl
/-- Device `d` owes a chunk to its own receive semaphore on each other device. -/
theorem owed_at_recv (d c p : Dev nD) : owed d 0 0 0 (recvC c p) () = if d = p then (if c ∈ others d then N else 0) else 0 := by
  rw [owed_at, sum_none (fun q => agC q d) N _ _ (fun q => use_ne (use_recv_ag d p)), sum_none (fun q => barC q) 1 _ _ (fun q => use_ne (use_bar_recv p).symm), Nat.zero_add, Nat.add_zero]
  by_cases h : d = p
  · rw [if_pos h, ← Finset.sum_ite_eq' (others d) c fun _ => N]
    exact Finset.sum_congr rfl fun q _ => if_congr (recv_iff.trans ⟨fun h' => h'.1, fun h' => ⟨h', h⟩⟩) rfl rfl
  · rw [if_neg h]
    exact Finset.sum_eq_zero fun q _ => if_neg fun h' => h (recv_iff.mp h').2
/-- Device `d` owes a finished chunk to its own receive semaphore on each other device. -/
theorem owed_at_ag (d c p : Dev nD) : owed d 0 0 0 (agC c p) () = if d = p then (if c ∈ others d then N else 0) else 0 := by
  rw [owed_at, sum_none (fun q => recvC q d) N _ _ (fun q => use_ne (use_recv_ag p d).symm), sum_none (fun q => barC q) 1 _ _ (fun q => use_ne (use_bar_ag p).symm), Nat.add_zero]
  by_cases h : d = p
  · rw [if_pos h, ← Finset.sum_ite_eq' (others d) c fun _ => N]
    exact Finset.sum_congr rfl fun q _ => if_congr (ag_iff.trans ⟨fun h' => h'.1, fun h' => ⟨h', h⟩⟩) rfl rfl
  · rw [if_neg h]
    exact Finset.sum_eq_zero fun q _ => if_neg fun h' => h (ag_iff.mp h').2

/-- What device `d` owes at the start. -/
def O₀ (d : Dev nD) : CellTallies nD τ sig Unit := owed d 0 0 0

/-- All devices together owe a barrier fifteen units. -/
theorem launch_bar (c : Dev nD) : tallyOn (barC c) (launchCredit (Pipeline.owing O₀) 0 (barC c)) = (tallyAt (barC c) () 15 : CellTallies nD τ sig Unit) := by
  unfold tallyAt; refine congrArg _ (Finsupp.ext fun u => ?_); cases u
  rw [Pipeline.launchCredit_owing, Finsupp.single_eq_same, Finset.sum_congr rfl fun d _ => (show O₀ d (barC c) () = _ from owed_at_bar d c)]
  revert c; decide +kernel
/-- All devices together owe a receive semaphore one chunk. -/
theorem launch_recv {c p : Dev nD} (h : p ∈ others c) : tallyOn (recvC c p) (launchCredit (Pipeline.owing O₀) 0 (recvC c p)) = (tallyAt (recvC c p) () N : CellTallies nD τ sig Unit) := by
  unfold tallyAt; refine congrArg _ (Finsupp.ext fun u => ?_); cases u
  rw [Pipeline.launchCredit_owing, Finsupp.single_eq_same, Finset.sum_congr rfl fun d _ => (show O₀ d (recvC c p) () = _ from owed_at_recv d c p),
    Finset.sum_ite_eq' Finset.univ p fun d => if c ∈ others d then N else 0, if_pos (Finset.mem_univ _), if_pos (mem_others.mpr (mem_others.mp h).symm)]
/-- All devices together owe a receive semaphore of the finished chunks one chunk. -/
theorem launch_ag {c p : Dev nD} (h : p ∈ others c) : tallyOn (agC c p) (launchCredit (Pipeline.owing O₀) 0 (agC c p)) = (tallyAt (agC c p) () N : CellTallies nD τ sig Unit) := by
  unfold tallyAt; refine congrArg _ (Finsupp.ext fun u => ?_); cases u
  rw [Pipeline.launchCredit_owing, Finsupp.single_eq_same, Finset.sum_congr rfl fun d _ => (show O₀ d (agC c p) () = _ from owed_at_ag d c p),
    Finset.sum_ite_eq' Finset.univ p fun d => if c ∈ others d then N else 0, if_pos (Finset.mem_univ _), if_pos (mem_others.mpr (mem_others.mp h).symm)]

/-! ## The semaphores of a device -/

/-- The use of each semaphore of the kernel. -/
theorem useOf_osem (k : Fin 3 × Dev nD) : useOf (osem k) = match k with | (0, p) => .send p | (1, p) => .recv p | (2, p) => .ag p := by
  obtain ⟨k, p⟩ := k
  fin_cases k
  · exact useOf_send p
  · exact useOf_recv p
  · exact useOf_ag p
/-- The numbering of the kernel's semaphores names each once. -/
theorem osem_inj : Function.Injective osem := by
  intro k k' h
  have h := congrArg useOf h
  rw [useOf_osem, useOf_osem] at h
  obtain ⟨k, p⟩ := k; obtain ⟨k', p'⟩ := k'
  fin_cases k <;> fin_cases k' <;> first | (cases h; rfl) | cases h
/-- With the barrier, too. -/
theorem csem_inj : Function.Injective csem := by
  intro k k' h
  rcases k with k | k <;> rcases k' with k' | k'
  · rfl
  · exact absurd h (by unfold csem osem; rcases k' with ⟨k', p⟩; fin_cases k' <;> exact fun h => by cases h)
  · exact absurd h (by unfold csem osem; rcases k with ⟨k', p⟩; fin_cases k' <;> exact fun h => by cases h)
  · rw [osem_inj h]

/-- A family over the semaphores of a device, by use. -/
theorem sems_eq (Φ : SemLoc sig → sProp (MT nD τ sig Unit (Elt F) ℕ UU ℕ)) : (bigSep Finset.univ fun k : Fin 3 × Dev nD => Φ (osem k))
    = iprop((bigSep Finset.univ fun p : Dev nD => Φ (.dma (sendS p))) ∗ (bigSep Finset.univ fun p : Dev nD => Φ (.dma (recvS p))) ∗ bigSep Finset.univ fun p : Dev nD => Φ (.dma (agS p))) := by
  rw [bigSep_univ_prod]
  exact bigSep_univ_eq_bigSepL (M := MT nD τ sig Unit (Elt F) ℕ UU ℕ) [(0 : Fin 3), 1, 2] (by decide) (by decide) _
/-- A fact of every semaphore of a device: of the barrier, and of the three kinds for every device. -/
theorem cells_eq (Φ : SemLoc sig → sProp (MT nD τ sig Unit (Elt F) ℕ UU ℕ)) : (bigSep Finset.univ fun k : Unit ⊕ Fin 3 × Dev nD => Φ (csem k))
    = iprop(Φ (.reg barS) ∗ bigSep Finset.univ fun k : Fin 3 × Dev nD => Φ (osem k)) := by
  rw [bigSep_univ_sum]
  refine congrArg (fun P : sProp (MT nD τ sig Unit (Elt F) ℕ UU ℕ) => iprop(P ∗ bigSep Finset.univ fun k : Fin 3 × Dev nD => Φ (osem k))) ?_
  exact bigSep_univ_of_subsingleton ()

/-- The credit of the launch holds what device `c` waits for. -/
theorem creds_intro (c : Dev nD) : (Pipeline.launchCred O₀ c : sProp 𝕄) ⊢ creds (F := F) c := by
  unfold Pipeline.launchCred creds
  refine (bigSep_subset (Finset.subset_univ (Finset.univ.map ⟨csem, csem_inj⟩))).trans ?_
  rw [bigSep_map]
  refine (show _ ⊢ _ from Entails.of_eq (cells_eq fun sm => cred (tallyOn ((c : Thread nD τ), sm) (launchCredit (Pipeline.owing O₀) 0 ((c : Thread nD τ), sm))))).trans ?_
  rw [sems_eq fun sm => cred (tallyOn ((c : Thread nD τ), sm) (launchCredit (Pipeline.owing O₀) 0 ((c : Thread nD τ), sm))), launch_bar,
    univ_split c fun p => cred (tallyOn ((c : Thread nD τ), .dma (recvS p)) (launchCredit (Pipeline.owing O₀) 0 ((c : Thread nD τ), .dma (recvS p)))),
    univ_split c fun p => cred (tallyOn ((c : Thread nD τ), .dma (agS p)) (launchCredit (Pipeline.owing O₀) 0 ((c : Thread nD τ), .dma (agS p)))),
    bigSep_congr (s := others c) (fun p hp => congrArg cred (launch_recv hp)), bigSep_congr (s := others c) (fun p hp => congrArg cred (launch_ag hp))]
  iintro ⟨Hb, -, ⟨-, Hr⟩, -, Ha⟩
  isplitl [Hb]; · iexact Hb
  isplitl [Hr]; · iexact Hr
  iexact Ha

/-! ## The rights -/

/-- The five rights between two devices: at the barrier, for the partial chunk, for the finished chunk, and for the two
    departures. -/
def tokOf (x : Dev nD × Fin 5 × Dev nD) : GSem nD τ sig × ℕ × Dev nD := match x with
  | (c, 0, p) => (barC c, 0, p)
  | (c, 1, p) => (recvC c p, 0, p)
  | (c, 2, p) => (agC c p, 0, p)
  | (c, 3, p) => (sendC c p, 0, p)
  | (c, 4, p) => (sendC c p, 1, p)

/-- A number for each use of a semaphore. -/
def useNum : Use → ℕ
  | .none => 0 | .bar => 1 | .recv _ => 2 | .ag _ => 3 | .send _ => 4

/-- A duty's cell, round and payer give back which of the five duties it is, of which device and towards which. -/
theorem tokOf_key (x : Dev nD × Fin 5 × Dev nD) : ((tokOf x).1.1.1, useNum (useOf (tokOf x).1.2) + (tokOf x).2.1, (tokOf x).2.2) = (x.1, x.2.1.val + 1, x.2.2) := by
  obtain ⟨c, k, p⟩ := x
  fin_cases k
  · rfl
  · show (c, useNum (useOf (.dma (recvS p))) + 0, p) = _; rw [useOf_recv]; rfl
  · show (c, useNum (useOf (.dma (agS p))) + 0, p) = _; rw [useOf_ag]; rfl
  · show (c, useNum (useOf (.dma (sendS p))) + 0, p) = _; rw [useOf_send]; rfl
  · show (c, useNum (useOf (.dma (sendS p))) + 1, p) = _; rw [useOf_send]; rfl
/-- So the duties are named once each. -/
theorem tokOf_inj : Function.Injective tokOf := by
  intro x y h
  have h := (tokOf_key x).symm.trans ((congrArg (fun t : GSem nD τ sig × ℕ × Dev nD => (t.1.1.1, useNum (useOf t.1.2) + t.2.1, t.2.2)) h).trans (tokOf_key y))
  obtain ⟨c, k, p⟩ := x; obtain ⟨c', k', p'⟩ := y
  simp only [Prod.mk.injEq] at h
  obtain ⟨h1, h2, h3⟩ := h
  have h2 : k = k' := Fin.ext (by omega)
  rw [h1, h2, h3]
/-- All duties of all devices. -/
def allToks : Finset (GSem nD τ sig × ℕ × Dev nD) := Finset.univ.map ⟨tokOf, tokOf_inj⟩

/-- The cells of all devices are named once each. -/
theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]
/-- All cells of all devices. -/
def allCells : Finset (GSem nD τ sig) := Finset.univ.map ⟨kcell, kcell_inj⟩

/-- All rights, each with its payer. -/
theorem toks_eq : bigSep allToks (fun x => (dutyTok ER x.1 x.2.1 x.2.2 : sProp 𝕄)) = bigSep Finset.univ fun c : Dev nD => toks (F := F) c := by
  have e : ∀ c : Dev nD, (bigSep Finset.univ fun kp : Fin 5 × Dev nD => (dutyTok ER (tokOf (c, kp)).1 (tokOf (c, kp)).2.1 (tokOf (c, kp)).2.2 : sProp 𝕄))
      = iprop((bigSep Finset.univ fun p : Dev nD => dutyTok ER (barC c) 0 p) ∗ (bigSep Finset.univ fun p : Dev nD => dutyTok ER (recvC c p) 0 p)
        ∗ (bigSep Finset.univ fun p : Dev nD => dutyTok ER (agC c p) 0 p) ∗ (bigSep Finset.univ fun p : Dev nD => dutyTok ER (sendC c p) 0 p)
        ∗ bigSep Finset.univ fun p : Dev nD => dutyTok ER (sendC c p) 1 p) := fun c => by
    rw [bigSep_univ_prod]
    exact bigSep_univ_eq_bigSepL (M := MT nD τ sig Unit (Elt F) ℕ UU ℕ) [(0 : Fin 5), 1, 2, 3, 4] (by decide) (by decide) _
  unfold allToks
  rw [bigSep_map, bigSep_univ_prod]
  refine (bigSep_congr fun c _ => e c).trans ?_
  unfold toks
  rw [bigSep_sep', bigSep_sep', bigSep_sep', bigSep_sep', bigSep_sep', bigSep_sep', bigSep_sep', bigSep_sep',
    bigSep_univ_comm fun (c p : Dev nD) => (dutyTok ER (barC c) 0 p : sProp 𝕄), bigSep_univ_comm fun (c p : Dev nD) => (dutyTok ER (recvC c p) 0 p : sProp 𝕄),
    bigSep_univ_comm fun (c p : Dev nD) => (dutyTok ER (agC c p) 0 p : sProp 𝕄)]

/-- The positions of a device at its semaphores' starts, by the kinds of semaphore. -/
theorem poss_eq (c : Dev nD) : (bigSep Finset.univ fun k : Unit ⊕ Fin 3 × Dev nD => (atPos ER (kcell (c, k)) 0 ∅ 0 : sProp 𝕄)) = poss (F := F) c := by
  refine (cells_eq fun sm => (atPos ER (((c : Thread nD τ), sm) : GSem nD τ sig) 0 ∅ 0 : sProp 𝕄)).trans ?_
  rw [sems_eq fun sm => (atPos ER (((c : Thread nD τ), sm) : GSem nD τ sig) 0 ∅ 0 : sProp 𝕄)]
  rfl

end Cert.Mlp

end
-- ==== Proof.Ghost.lean ====
module

public import proofs.«01_k».proof.Proof.Credit

/-! The schedules set up at the launch, and taken down at the end: all semaphores at zero again. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- What the launch makes for device `c`. -/
def G (c : Dev nD) : sProp 𝕄 :=
  iprop((bigSep Finset.univ fun k : Unit ⊕ Fin 3 × Dev nD => roundState ER (Rd m) (kcell (c, k)) 0)
    ∗ (bigSep Finset.univ fun k : Unit ⊕ Fin 3 × Dev nD => reached ER (kcell (c, k)) 0)
    ∗ (bigSep Finset.univ fun k : Unit ⊕ Fin 3 × Dev nD => atPos ER (kcell (c, k)) 0 ∅ 0) ∗ toks (F := F) c)

/-- What everyone knows of all semaphores. -/
def knownAll : sProp 𝕄 := bigSep Finset.univ fun ck : Dev nD × (Unit ⊕ Fin 3 × Dev nD) => known m (kcell ck)
/-- This can be used again and again. -/
instance knownAll_persistent : BI.Persistent (knownAll m) := by unfold knownAll; infer_instance

/-- What device `c` has once the schedules are set up. -/
def G' (c : Dev nD) : sProp 𝕄 := iprop(knownAll m ∗ toks (F := F) c ∗ poss (F := F) c)

/-- At the launch every device gets the duties and the positions that are its own. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Unit ⊕ Fin 3 × Dev nD => Φ (kcell (c, k)) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hr']; · iexact Hr'
  isplitl [Hat']; · iexact Hat'
  iexact Htok'

/-- The only semaphore that outlives the kernel is the barrier. -/
theorem unscoped_eq (c : Dev nD) : (unscopedSems0 c : sProp 𝕄) = semVal (barC c) 0 := by
  unfold unscopedSems0; rw [bigSep_eq_bigSepL_of_eq [SemLoc.reg barS] (by decide) (by decide)]; rfl

/-- A device opens the records of its semaphores, all at zero, and keeps its duties and positions. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Unit ⊕ Fin 3 × Dev nD => known m (kcell (c, k))) ∗ toks (F := F) c ∗ poss (F := F) c) := by
  unfold G
  rw [poss_eq]
  iintro ⟨Hos, Hus, Hst, Hre, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Unit ⊕ Fin 3 × Dev nD => semVal (kcell (c, k)) 0 : sProp 𝕄) from by
    have e : iprop(semVal (barC c) 0 ∗ bigSep Finset.univ fun k : Fin 3 × Dev nD => semVal ((c : Thread nD τ), osem k) 0) ⊢ (bigSep Finset.univ fun k : Unit ⊕ Fin 3 × Dev nD => semVal (kcell (c, k)) 0 : sProp 𝕄) :=
      Entails.of_eq (cells_eq fun sm => (semVal (((c : Thread nD τ), sm) : GSem nD τ sig) 0 : sProp 𝕄)).symm
    refine BIBase.Entails.trans ?_ e
    rw [unscoped_eq]; unfold Pipeline.ownSems0
    iintro ⟨HO, HB⟩
    isplitl [HB]; · iexact HB
    iexact HO) $$ [Hos Hus]
  · isplitl [Hos] <;> iassumption
  imod (show iprop((bigSep Finset.univ fun k : Unit ⊕ Fin 3 × Dev nD => semVal (kcell (c, k)) 0) ∗ bigSep Finset.univ fun k : Unit ⊕ Fin 3 × Dev nD => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hre]
  · unfold known
    rw [bigSep_sep']
    isplitl [Hinv] <;> iassumption
  isplitl [Htok]; · iexact Htok
  iexact Hat

/-- What every device has recorded is common knowledge; the duties and positions stay with each. -/
theorem regroup : (bigSep Finset.univ fun c : Dev nD => iprop((bigSep Finset.univ fun k : Unit ⊕ Fin 3 × Dev nD => known m (kcell (c, k))) ∗ toks (F := F) c ∗ poss (F := F) c))
    ⊢ bigSep Finset.univ (G' m) := by
  rw [bigSep_sep', ← bigSep_univ_prod fun ck : Dev nD × (Unit ⊕ Fin 3 × Dev nD) => known m (kcell ck)]
  exact bigSep_with_persistent (R := knownAll m) (Φ := fun c => iprop(toks (F := F) c ∗ poss (F := F) c)) (Ψ := G' m) fun c _ => .rfl

/-- From the launch's grant to what every device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The end -/

/-- A semaphore past its last round is at zero. -/
theorem close_cell {g : GSem nD τ sig} {r : ℕ} (hk : records m ⊢ known m g) (hr : ∀ r', r ≤ r' → (Rd m).duties g r' = ∅) :
    iprop(records m ∗ atPos ER g r ∅ 0) ⊢ |={Set.univ}=> (semVal g 0 : sProp 𝕄) := by
  iintro ⟨Hr, Ha⟩
  ihave Hk := hk $$ Hr
  unfold known
  icases Hk with ⟨⟨%κ, HI⟩, -⟩
  iapply (Rounds.cell_close ER (Rd m) (Set.mem_univ κ) (fun h => h) hr)
  isplitl [HI]; · iexact HI
  iexact Ha

/-- So for the others' of an array, and one's own, which is never raised. -/
theorem close_array (c : Dev nD) (g : Dev nD → GSem nD τ sig) {r : ℕ} (hk : ∀ p, records m ⊢ known m (g p)) (hr : ∀ p r', r ≤ r' → (Rd m).duties (g p) r' = ∅)
    (h0 : ∀ r', 0 ≤ r' → (Rd m).duties (g c) r' = ∅) :
    iprop(records m ∗ atPos ER (g c) 0 ∅ 0 ∗ bigSep (others c) fun p => atPos ER (g p) r ∅ 0) ⊢ |={Set.univ}=> (bigSep Finset.univ fun p : Dev nD => semVal (g p) 0 : sProp 𝕄) := by
  rw [univ_split c]
  iintro ⟨#Hr, H0, H⟩
  imod (close_cell m (hk c) h0) $$ [H0] with H0
  · isplitr; · iexact Hr
    iexact H0
  imod ((bigSep_with_persistent (R := records m) (S := others c) fun p _ => close_cell m (hk p) (hr p)).trans (bigSep_fupd _ _)) $$ [H] with H
  · isplitr; · iexact Hr
    iexact H
  imodintro
  isplitl [H0]; · iexact H0
  iexact H

/-- What a device hands back: its buffers, its semaphores at zero. -/
def Φ₁ (c : Dev nD) : sProp 𝕄 :=
  iprop(stAny (F := F) c ∗ rsAny (F := F) c ∗ agAny (F := F) c ∗ semVal (barC c) 0 ∗ bigSep Finset.univ fun k : Fin 3 × Dev nD => semVal ((c : Thread nD τ), osem k) 0)

/-- At the end a device takes its semaphores, all at zero again, and its buffers back. -/
theorem finish (c : Dev nD) : iprop(records m ∗ own c 15 15 15 ∗ pend 15 (endItem (F := F) c) 15 ∗ past (endGot m c) 15 ∗ lastPart m c)
    ⊢ |={Set.univ}=> iprop(Φ₁ (F := F) c ∗ own c 15 15 15 ∗ xPts m c ∗ wPts m c ∗ outDone m c) := by
  unfold lastPart sumPart selfPart Φ₁
  rw [endGot_eq, agGot_eq, recvGot_eq, sems_eq fun sm => (semVal (((c : Thread nD τ), sm) : GSem nD τ sig) 0 : sProp 𝕄), out_join, univ_split c fun p => outPts c p (outFull m)]
  iintro ⟨#Hr, Ho, -, ⟨Hag, Hs⟩, ⟨Hout, Ha⟩, Hag0, Hout0, ⟨Hx, Hw, Hb, Hst0, Hrs, Hv⟩, Hst, Hrs0, Hs0, Hv0, Ha0⟩
  imod (close_cell m (records_bar m c) (duties_bar_later m c)) $$ [Hb] with Hb
  · isplitr; · iexact Hr
    iexact Hb
  imod (close_array m c (fun p => sendC c p) (records_send m c) (fun p => duties_send_later m c p) (duties_send_self m c)) $$ [Hs0 Hs] with Hs
  · isplitr; · iexact Hr
    isplitl [Hs0] <;> iassumption
  imod (close_array m c (fun p => recvC c p) (records_recv m c) (fun p => duties_recv_later m c p) (duties_recv_self m c)) $$ [Hv0 Hv] with Hv
  · isplitr; · iexact Hr
    isplitl [Hv0] <;> iassumption
  imod (close_array m c (fun p => agC c p) (records_ag m c) (fun p => duties_ag_later m c p) (duties_ag_self m c)) $$ [Ha0 Ha] with Ha
  · isplitr; · iexact Hr
    isplitl [Ha0] <;> iassumption
  imodintro
  isplitl [Hst0 Hst Hrs0 Hrs Hag0 Hag Hb Hs Hv Ha]
  · isplitl [Hst0 Hst]
    · iapply (st_join m c)
      rw [univ_split c]
      isplitl [Hst0] <;> iassumption
    isplitl [Hrs0 Hrs]
    · iapply (rs_join m c)
      rw [univ_split c]
      isplitl [Hrs0]; · iexact Hrs0
      have e : (bigSep (others c) fun p => rsPts c p (rsFull m c)) ⊢ bigSep (others c) fun p => iprop(∃ f, rsPts (F := F) c p f) :=
        bigSep_mono fun p _ => show rsPts c p (rsFull m c) ⊢ iprop(∃ f, rsPts (F := F) c p f) from by iintro H; iexists (rsFull m c); iexact H
      iapply e $$ Hrs
    isplitl [Hag0 Hag]
    · unfold agAny
      iexists (agVal m c)
      have e : iprop(agPts c c (agVal m c) ∗ bigSep (others c) fun p => agPts c p (agVal m c)) ⊢ (c.tc.loc cc0_scratch2 ↦{fullShare} agVal m c : sProp 𝕄) := Entails.of_eq (by rw [show (c.tc.loc cc0_scratch2 ↦{fullShare} agVal m c : sProp 𝕄) = agFull m c from rfl, ag_shares, univ_split c])
      iapply e
      isplitl [Hag0] <;> iassumption
    isplitl [Hb]; · iexact Hb
    isplitl [Hs]; · iexact Hs
    isplitl [Hv]; · iexact Hv
    iexact Ha
  isplitl [Ho]; · iexact Ho
  isplitl [Hx]; · iexact Hx
  isplitl [Hw]; · iexact Hw
  isplitl [Hout0] <;> iassumption

end Cert.Mlp

end
-- ==== Proof.Setup.lean ====
module

public import proofs.«01_k».proof.Proof.Ghost
public import proofs.«01_k».proof.Proof.Gen.KernelIdeal.Points
public import Idealize.ShloMosaic.Lib.Pipeline.CollectiveSegs
public import Idealize.ShloMosaic.Lib.Pipeline.Value

/-! The launch of the kernel: what each device starts with and ends with, and the run of the whole program once the
    kernel's body is known to take the one to the other. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- What device `c`'s kernel starts from beside its buffers. -/
def start (c : Dev nD) : sProp 𝕄 := iprop(records m ∗ toks (F := F) c ∗ poss (F := F) c ∗ creds (F := F) c)

/-- All it starts from, -/
def Φ₀ (c : Dev nD) : sProp 𝕄 := iprop(start m c ∗ stAny (F := F) c ∗ rsAny (F := F) c ∗ agAny (F := F) c)

/-- and the data of the one region: the arrays as launched; the windows' buffers after the kernel; what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => w1stg m c
    | ⟨2, _⟩ => w2stg m c
    | ⟨3, _⟩ => outFull m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- The pipeline holds every array whole. -/
theorem share_eq (c : Dev nD) (w : Fin cfg0.W) : (dats m ρ 0 c).share w = fullShare := by unfold Dat.share; split <;> rfl

/-- The kernel's own semaphores are not the pipeline's. -/
theorem ownSemFacts : Pipeline.OwnSemFacts cfg0.spec osem := by decide +kernel

/-- The records at the launch: the pipeline's and the rounds'. -/
def u₀ : UU := (initOf (Pipeline.cells cfgs cellOf_inj) (Pipeline.launchToks cfgs cellOf_inj), initOf allCells allToks)

/-- The pipeline's semaphores have no use in the kernel. -/
theorem stage_use : ∀ (w : Fin cfg0.W) (s : Fin (cfg0.win w).nbuf), useOf (.dma ((cfg0.win w).sem s)) = .none := by decide +kernel

/-- The pipeline's own waits come before everything that a device owes. -/
theorem waits (c : Dev nD) : (levAts L lv : sProp 𝕄) ⊢ Pipeline.cellsWaits cfgs (dats m ρ) () 0 c :=
  Pipeline.cellsWaits_intro cfgs (dats m ρ) () 0 c fun w s t => by
    have h := stage_use w s
    have go := fun k => mayWait (F := F) c (.dma ((cfg0.win w).sem s)) k k k (fun _ => by rw [h]; decide) (fun _ => by rw [h]; decide) (fun _ => by rw [h]; decide)
    rcases t with ⟨_ | _, ht⟩
    · exact go 0
    · have := go 15
      rw [owed_done] at this
      exact this

/-- What the launch hands a device is what its kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hc, -, HG⟩
  ihave Hc := (creds_intro (F := F) c) $$ Hc
  unfold G'
  icases HG with ⟨Hk, Ht, Hp⟩
  imodintro
  unfold start records knownAll
  isplitl
  · isplitl [Hk Hl]
    · isplitl [Hk]; · iexact Hk
      iexact Hl
    isplitl [Ht]; · iexact Ht
    isplitl [Hp] <;> iassumption
  · iempintro

/-- With the kernel's buffers it makes up what holds before the only point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ stAny rsAny agAny
  iintro ⟨Hs, -, Hst, Hrs, Hag⟩
  isplitl [Hs]; · iexact Hs
  isplitl [Hst]; · iexact Hst
  isplitl [Hrs]; · iexact Hrs
  iexact Hag

/-- What holds after the point gives the semaphores and the buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscoped_eq]
  unfold Φ₁ Pipeline.ownSems0 stAny rsAny agAny
  iintro ⟨Hst, Hrs, Hag, Hb, Hs⟩
  isplitl [Hb]; · iexact Hb
  isplitl [Hs]; · iexact Hs
  isplitl [Hst]; · iexact Hst
  isplitl [Hrs]; · iexact Hrs
  iexact Hag

/-- The contents of an array after the run. -/
def finalA (c : Dev nD) (w : Fin cfg0.W) : Buf (Elt F) ((cfg0.win w).arr.view.loc (c : Thread nD τ)) := (dats m ρ 0 c).arrAt w cfg0.N

/-- What is claimed of the final memory: every window's array has its computed contents. -/
def QC : PUnit × MemSt nD τ sig (Elt F) → Prop := fun r =>
  ∀ c : Dev nD, ∀ w : Fin cfg0.W, r.2.mem ((cfg0.win w).arr.view.loc (c : Thread nD τ)) = finalA m ρ c w

/-- The run of the program, from the kernel's body: every device's arrays at the computed contents, and every semaphore
    at zero. -/
theorem run_of (hbody : ∀ c, BodyObligation (dats (F := F) m ρ 0 c) (defs₀ (F := F)) 𝒱₀ () Set.univ) :
    θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := hbody) (hne := fun w => by fin_cases w <;> exact Nat.succ_pos _) (harr := arr_whole0) (hstage := stage_whole0) (hshare := share_eq m ρ)
    (hdistinct := winFacts0.arr_inj) (O₀ := O₀) (howed₀ := fun _ => rfl) (howedN := fun _ => rfl) (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m) (hA := fun _ _ => rfl) (hpf := fun _ k => k.elim0)
    (X := start m) (Y := fun c => unscopedSems0 c) (Z := fun _ => iprop(emp)) (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The body, from its buffers to its buffers -/

/-- To own a whole buffer at some contents is to hold it with these contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The buffer `b` of device `c`, at the contents `X`. -/
abbrev holdsAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A buffer with known contents is held at them. -/
theorem holdsAt_intro (c : Dev nD) (b : Ref sig .tc) (X : b.ty.Contents (Elt F)) : ((((c : Thread nD τ).loc b) ↦{fullShare} X) : sProp 𝕄) ⊢ holdsAt c b X := by
  iintro H
  iexists X
  isplitr; · ipureintro; rfl
  iexact H

/-- The grid's only point. -/
def t₀ : Fin cfg0.N := ⟨0, by rw [show cfg0.N = 1 from by decide]; decide⟩
/-- There is no other point. -/
theorem fin_N (t : Fin cfg0.N) : t = t₀ := by
  obtain ⟨t, ht⟩ := t; have : cfg0.N = 1 := by decide
  exact Fin.ext (by simp only [t₀]; omega)

/-- What the kernel finds at the only point: the buffers' contents before it. -/
def bodyPre (c : Dev nD) : sProp 𝕄 :=
  iprop(Φ₀ m c ∗ (dats m ρ 0 c).owesAt () t₀.castSucc
    ∗ (∃ d, holdsAt c cc0_stg0_0 ((dats m ρ 0 c).before (0 : Fin 4) t₀ d)) ∗ (∃ d, holdsAt c cc0_stg1_0 ((dats m ρ 0 c).before (1 : Fin 4) t₀ d))
    ∗ (∃ d, holdsAt c cc0_stg2_0 ((dats m ρ 0 c).before (2 : Fin 4) t₀ d)) ∗ (∃ d, holdsAt c cc0_stg3_0 ((dats m ρ 0 c).before (3 : Fin 4) t₀ d)))

/-- What it leaves there. -/
def bodyPost (c : Dev nD) : sProp 𝕄 :=
  iprop(Φ₁ (F := F) c ∗ (dats m ρ 0 c).owesAt () t₀.succ
    ∗ holdsAt c cc0_stg0_0 (xstg m c) ∗ holdsAt c cc0_stg1_0 (w1stg m c) ∗ holdsAt c cc0_stg2_0 (w2stg m c) ∗ holdsAt c cc0_stg3_0 (outFull m))

/-- The buffers before the point, under the names that the kernel's parts use. -/
theorem bodyPre_eq (c : Dev nD) : bodyPre m ρ c ⊢ iprop(start m c ∗ own c 0 0 0 ∗ xPts m c ∗ wPts m c ∗ outAny (F := F) c ∗ stAny (F := F) c ∗ rsAny (F := F) c ∗ agAny (F := F) c) := by
  unfold bodyPre Φ₀ Dat.owesAt Pipeline.owesWithin
  iintro ⟨⟨Hs, Hst, Hrs, Hag⟩, ⟨%W, %hW, HO⟩, ⟨%d0, %g0, %h0, H0⟩, ⟨%d1, %g1, %h1, H1⟩, ⟨%d2, %g2, %h2, H2⟩, ⟨%d3, %g3, %h3, H3⟩⟩
  have e0 : g0 = xstg m c := by rw [h0]; unfold Dat.before; rw [if_pos (fetch0_0 t₀)]; rfl
  have e1 : g1 = w1stg m c := by rw [h1]; unfold Dat.before; rw [if_pos (fetch0_1 t₀)]; rfl
  have e2 : g2 = w2stg m c := by rw [h2]; unfold Dat.before; rw [if_pos (fetch0_2 t₀)]; rfl
  subst e0 e1 e2
  unfold xPts wPts outAny own
  isplitl [Hs]; · iexact Hs
  isplitl [HO]; · iexists W; iexact HO
  isplitl [H0]; · iexact H0
  isplitl [H1 H2]
  · isplitl [H1]; · iexact H1
    iexact H2
  isplitl [H3]; · iexists g3; iexact H3
  isplitl [Hst]; · iexact Hst
  isplitl [Hrs] <;> iassumption

/-- What the kernel's parts leave, as the buffers after the point. -/
theorem bodyPost_intro (c : Dev nD) : iprop(Φ₁ (F := F) c ∗ own c 15 15 15 ∗ xPts m c ∗ wPts m c ∗ outDone m c) ⊢ bodyPost m ρ c := by
  unfold bodyPost xPts wPts outDone own Dat.owesAt Pipeline.owesWithin
  rw [owed_done, show (dats m ρ 0 c).owed t₀.succ = 0 from rfl]
  iintro ⟨HP, ⟨%W, HO⟩, H0, ⟨H1, H2⟩, H3⟩
  isplitl [HP]; · iexact HP
  isplitl [HO]
  · iexists W
    isplitr; · ipureintro; exact fun _ _ => Or.inl trivial
    iexact HO
  isplitl [H0]; · iapply (holdsAt_intro c cc0_stg0_0 (xstg m c)) $$ H0
  isplitl [H1]; · iapply (holdsAt_intro c cc0_stg1_0 (w1stg m c)) $$ H1
  isplitl [H2]; · iapply (holdsAt_intro c cc0_stg2_0 (w2stg m c)) $$ H2
  iapply (holdsAt_intro c cc0_stg3_0 (outFull m)) $$ H3

/-- Each window is on the whole of its array. -/
theorem blk_x (f) : (win0_0.blk (0 : Fin 1)).view.read (Elt F) f = f :=
  Memref.read_access_unit_zero (Elt F) main_arg0 (funext fun a => by fin_cases a <;> rfl) (fun a => by fin_cases a <;> decide) f
/-- The first layer's weights; -/
theorem blk_w1 (f) : (win0_1.blk (0 : Fin 1)).view.read (Elt F) f = f :=
  Memref.read_access_unit_zero (Elt F) main_arg1 (funext fun a => by fin_cases a <;> rfl) (fun a => by fin_cases a <;> decide) f
/-- the second layer's weights; -/
theorem blk_w2 (f) : (win0_2.blk (0 : Fin 1)).view.read (Elt F) f = f :=
  Memref.read_access_unit_zero (Elt F) main_arg2 (funext fun a => by fin_cases a <;> rfl) (fun a => by fin_cases a <;> decide) f
/-- and the result. -/
theorem blk_out (f) : (win0_3.blk (0 : Fin 1)).view.read (Elt F) f = f :=
  Memref.read_access_unit_zero (Elt F) main_v1 (funext fun a => by fin_cases a <;> rfl) (fun a => by fin_cases a <;> decide) f

/-- The result array after the run. -/
theorem final_out (c : Dev nD) : finalA m ρ c (3 : Fin 4) = outFull m := by
  refine (blk_out (F := F) (finalA m ρ c (3 : Fin 4))).symm.trans ?_
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

end Cert.Mlp

end
-- ==== Proof.Run.lean ====
module

public import proofs.«01_k».proof.Proof.Body
public import proofs.«01_k».proof.Proof.Setup

/-! The run of the whole program, and the result of each device. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The grid's only point calls the kernel on its buffers. -/
theorem body_at : (defs₀ (F := F)) Proc.tc (0 : Fin 1) (t₀, cfg0.slots t₀) = cc0_body (F := F) xM (Memref.isWhole_whole _) w1M (Memref.isWhole_whole _) w2M (Memref.isWhole_whole _) oM (Memref.isWhole_whole _)
    stM (Memref.isWhole_whole _) rsM (Memref.isWhole_whole _) agM (Memref.isWhole_whole _) cc0_scratch3 cc0_scratch4 cc0_scratch5 := rfl

/-- What a device ends with, as the pipeline asks for it. -/
def bodyEnd (c : Dev nD) : PUnit → sProp 𝕄 := fun _ => iprop((dats m ρ 0 c).Φ t₀.succ ∗ (dats m ρ 0 c).owesAt () t₀.succ
    ∗ holdsAt c cc0_stg0_0 ((dats m ρ 0 c).after (0 : Fin 4) t₀) ∗ holdsAt c cc0_stg1_0 ((dats m ρ 0 c).after (1 : Fin 4) t₀)
    ∗ holdsAt c cc0_stg2_0 ((dats m ρ 0 c).after (2 : Fin 4) t₀) ∗ holdsAt c cc0_stg3_0 ((dats m ρ 0 c).after (3 : Fin 4) t₀))

/-- It is what the kernel's end gives. -/
theorem bodyEnd_intro (c : Dev nD) : bodyPost m ρ c ⊢ bodyEnd m ρ c ⟨⟩ := .rfl

/-- What a device starts with, dealt out to the kernel's parts. -/
theorem bodyPre_deal (c : Dev nD) : bodyPre m ρ c ⊢ iprop(records m ∗ own c 0 0 0 ∗ pend 15 (sigItem (F := F) c) 0 ∗ wPts m c ∗ xPts m c ∗ pend 8 (grpItem (F := F) c) 0 ∗ barIn (F := F) c
    ∗ pend 15 (recvItem (F := F) c) 0 ∗ agAny (F := F) c ∗ latePart (F := F) c) := by
  refine (bodyPre_eq m ρ c).trans ?_
  unfold start
  iintro ⟨⟨Hr, Ht, Hp, Hc⟩, Ho, Hx, Hw, Hout, Hst, Hrs, Hag⟩
  isplitl [Hr]; · iexact Hr
  isplitl [Ho]; · iexact Ho
  iapply (deal_start m c)
  isplitl [Ht]; · iexact Ht
  isplitl [Hp]; · iexact Hp
  isplitl [Hc]; · iexact Hc
  isplitl [Hx]; · iexact Hx
  isplitl [Hw]; · iexact Hw
  isplitl [Hout]; · iexact Hout
  isplitl [Hst]; · iexact Hst
  isplitl [Hrs] <;> iassumption

/-- The kernel takes what a device starts with to what it ends with, -/
theorem body_wp (c : Dev nD) : bodyPre m ρ c ⊢ run c (cc0_body (F := F) xM (Memref.isWhole_whole _) w1M (Memref.isWhole_whole _) w2M (Memref.isWhole_whole _) oM (Memref.isWhole_whole _)
    stM (Memref.isWhole_whole _) rsM (Memref.isWhole_whole _) agM (Memref.isWhole_whole _) cc0_scratch3 cc0_scratch4 cc0_scratch5) (bodyEnd m ρ c) :=
  (bodyPre_deal m ρ c).trans (body_run (Q := bodyEnd m ρ c) m c ((finish m c).trans (BI.fupd_mono ((bodyPost_intro m ρ c).trans (bodyEnd_intro m ρ c)))))

/-- The pipeline's demand, from the run at its only point; -/
theorem obligation_of (c : Dev nD) (h : bodyPre m ρ c ⊢ run c ((defs₀ (F := F)) Proc.tc (0 : Fin 1) (t₀, cfg0.slots t₀)) (bodyEnd m ρ c)) :
    BodyObligation (dats (F := F) m ρ 0 c) (defs₀ (F := F)) 𝒱₀ () Set.univ := fun t => by
  rw [fin_N t, bigSep_W0, bigSep_W0]
  simp only [owns_whole_eq]
  refine BIBase.Entails.trans (show _ ⊢ bodyPre m ρ c from .rfl) (h.trans (Entails.of_eq ?_))
  unfold bodyEnd run
  congr 1

/-- so the kernel meets it. -/
theorem body_obligation (c : Dev nD) : BodyObligation (dats (F := F) m ρ 0 c) (defs₀ (F := F)) 𝒱₀ () Set.univ :=
  obligation_of m ρ c ((body_wp m ρ c).trans (Entails.of_eq (by rw [body_at])))

/-- Every run of the program ends, with every device's result the sum of the sixteen chunks, its arguments as they were,
    and every semaphore at zero. -/
theorem run_main : θ_run defs (onTc (τ := τ) (main (F := F))) (s₀ m ρ) (fun r => (∀ c : Dev nD,
    r.2.mem ((c : Thread nD τ).loc main_v1) = outFull m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0) :=
  (θ_run defs _ _).mono (fun r h => ⟨fun c => ⟨(h.1 c 3).trans (final_out m ρ c), (h.1 c 0).trans ((dats (F := F) m ρ 0 c).arrAt_in (0 : Fin 4) rfl _),
    (h.1 c 1).trans ((dats (F := F) m ρ 0 c).arrAt_in (1 : Fin 4) rfl _), (h.1 c 2).trans ((dats (F := F) m ρ 0 c).arrAt_in (2 : Fin 4) rfl _)⟩, h.2⟩)
    (run_of m ρ (body_obligation m ρ))

end Cert.Mlp

end
-- ==== Proof.Sums.lean ====
module

public import Mathlib.Data.EReal.Basic
public import Mathlib.Algebra.BigOperators.Fin
public import Mathlib.Logic.Equiv.Fin.Basic

/-! One element of a two-layer network with the rectifier between, and its cutting into blocks of hidden units. -/

@[expose] public section

noncomputable section

namespace Cert.Mlp

/-- The element: each hidden unit is a row of the first layer's inputs weighted and cut off at zero; they are weighted
    once more and added. -/
def unitSum {J : Type} [Fintype J] (K : ℕ) (x : J → EReal) (w : J → Fin K → EReal) (v : Fin K → EReal) : EReal :=
  ∑ k : Fin K, max (∑ j, x j * w j k) 0 * v k

/-- Hidden unit `k` of block `d`, when they are cut into blocks of `K`. -/
def unitOf (D K : ℕ) (d : Fin D) (k : Fin K) : Fin (D * K) := finProdFinEquiv (d, k)

/-- Its number among all. -/
theorem unitOf_val (D K : ℕ) (d : Fin D) (k : Fin K) : (unitOf D K d k).val = d.val * K + k.val := by
  show k.val + K * d.val = _
  rw [Nat.mul_comm, Nat.add_comm]

/-- The element is the sum of the blocks' elements. -/
theorem unitSum_blocks {J : Type} [Fintype J] (D K : ℕ) (x : J → EReal) (w : J → Fin (D * K) → EReal) (v : Fin (D * K) → EReal) :
    unitSum (D * K) x w v = ∑ d : Fin D, unitSum K x (fun j k => w j (unitOf D K d k)) (fun k => v (unitOf D K d k)) := by
  unfold unitSum
  rw [← Equiv.sum_comp (finProdFinEquiv (m := D) (n := K)), Fintype.sum_prod_type]
  rfl

end Cert.Mlp

end
-- ==== Proof.Values.lean ====
module

public import proofs.«01_k».proof.Proof.Contents
public import proofs.«01_k».proof.Proof.Sums
public import Idealize.ShloMosaic.Lib.MatmulPlain
public import Idealize.ShloMosaic.Lib.ValueIdx
public import Idealize.ShloMosaic.Lib.Pipeline.Value

/-! What the kernel's result is, element by element, over exact numbers: the sum over the devices of what each computes
    with its part of the weights. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable (m : (ℓ : Loc nD τ sig) → Buf (Elt Ideal) ℓ)

/-- Device `d`'s share of an element of the result. -/
def share (d : Dev nD) (r l : Fin 1024) : EReal :=
  unitSum 2048 (fun j : Fin 1024 => xstg m d (ix2 r j)) (fun j k => w1stg m d (ix2 j k)) (fun k => w2stg m d (ix2 k l))

/-- The row of group `g`'s chunk `a`. -/
def groupRow (g : Fin 8) (a : Fin 2) (b : Fin 64) : Fin 128 := ⟨64 * a.val + b.val, by omega⟩
/-- A row of chunk `p`. -/
def chunkRow (p : Dev nD) (b : Fin 64) : Fin 1024 := ⟨64 * p.val + b.val, by have : p.val < 16 := p.isLt; omega⟩

/-- A group's rows of the inputs. -/
theorem xrows_apply (c : Dev nD) (g : Fin 8) (b : Fin 128) (j : Fin 1024) :
    xrows m c g (ix2 b j) = xstg m c (ix2 (⟨128 * g.val + b.val, by omega⟩ : Fin 1024) j) := by
  show xstg m c _ = xstg m c _
  refine congrArg (xstg m c) (funext fun a => Fin.ext ?_)
  match a with
  | ⟨0, _⟩ => show 128 * g.val + 1 * b.val = _; rw [Nat.one_mul]
  | ⟨1, _⟩ => show 0 + 1 * j.val = j.val; rw [Nat.one_mul, Nat.zero_add]

/-- A trip's product, element by element. -/
theorem group_apply (v65 : FVec Ideal S1024x2048 .bf16) (v67 : FVec Ideal S2048x1024 .bf16) (v90 : Vec Ideal S128x1024 .bf16) (a : Fin 2) (b : Fin 64) (l : Fin 1024) (r : Fin 128)
    (hr : r.val = 64 * a.val + b.val) : k0_pay3 v65 v67 v90 (ix3 a b l) = unitSum 2048 (fun j : Fin 1024 => v90 (ix2 r j)) (fun j k => v65 (ix2 j k)) (fun k => v67 (ix2 k l)) := by
  unfold k0_pay3
  rw [shapeCast_self, shapeCast_self, shapeCast_apply _ _ _ (ix2 r l) (by
    rw [Shape.rowMajor_val_two, Shape.rowMajor_val_three]; show r.val * 1024 + l.val = (a.val * 64 + b.val) * 1024 + l.val; rw [hr]; omega), truncf_apply]
  refine (Ideal.matmul_plain_apply none _ _ _ r l).trans ?_
  rw [constant_apply, Ideal.ofBits_zero_f32, zero_add]
  unfold unitSum
  refine Finset.sum_congr rfl fun k _ => ?_
  refine congrArg (fun y : EReal => y * v67 (ix2 k l)) ?_
  rw [truncf_apply, maximumf_apply]
  refine congrArg₂ max ?_ Ideal.ofBits_zero_f32
  refine (Ideal.matmul_plain_apply none _ _ _ r k).trans ?_
  rw [constant_apply, Ideal.ofBits_zero_f32, zero_add]

/-- A device's product, chunk by chunk. -/
theorem stageFull_apply (d p : Dev nD) (b : Fin 64) (l : Fin 1024) : stageFull m d (ix3 (⟨p.val, p.isLt⟩ : Fin 16) b l) = share m d (chunkRow p b) l := by
  have hp : p.val < 16 := p.isLt
  unfold stageFull groupVal
  refine (group_apply _ _ _ _ _ _ (⟨64 * (p.val % 2) + b.val, by omega⟩ : Fin 128) rfl).trans ?_
  unfold share unitSum k0_pay1 k0_pay2
  dsimp only
  rw [shapeCast_self, shapeCast_self]
  refine Finset.sum_congr rfl fun k _ => ?_
  refine congrArg (fun y : EReal => max y 0 * w2stg m d (ix2 k l)) (Finset.sum_congr rfl fun j _ => ?_)
  rw [xrows_apply]
  refine congrArg (fun r : Fin 1024 => @HMul.hMul EReal EReal EReal _ (xstg m d (ix2 r j)) (w1stg m d (ix2 j k))) (Fin.ext ?_)
  show 128 * (p.val / 2) + (64 * (p.val % 2) + b.val) = 64 * p.val + b.val
  omega

/-- A loaded slot, without its first coordinate. -/
theorem load_apply (f : S16x64x1024.Idx → EReal) (p : Dev nD) (b : Fin 64) (l : Fin 1024) (h) :
    shapeCast S64x1024 (fun x : S1x64x1024.Idx => f ((slotR p).toLoadRect.idx x)) h (ix2 b l) = f (ix3 (⟨p.val, p.isLt⟩ : Fin 16) b l) := by
  rw [shapeCast_apply _ _ _ (ix3 (0 : Fin 1) b l) (by rw [Shape.rowMajor_val_two, Shape.rowMajor_val_three]; show (0 * 64 + b.val) * 1024 + l.val = b.val * 1024 + l.val; omega)]
  refine congrArg f (funext fun a => Fin.ext ?_)
  match a with
  | ⟨0, _⟩ => show p.val + 1 * 0 = p.val; omega
  | ⟨1, _⟩ => show 0 + 1 * b.val = b.val; omega
  | ⟨2, _⟩ => show 0 + 1 * l.val = l.val; omega

/-- A device's own chunk, as it is loaded for the sum; -/
theorem ownLoad_apply (c : Dev nD) (b : Fin 64) (l : Fin 1024) (h) : shapeCast S64x1024 (ownLoad m c) h (ix2 b l) = share m c (chunkRow c b) l :=
  (load_apply (stageFull m c) c b l h).trans (stageFull_apply m c c b l)

/-- and the one that came from device `p`. -/
theorem rsLoad_apply (c p : Dev nD) (b : Fin 64) (l : Fin 1024) (h) : shapeCast S64x1024 (rsLoad m c p) h (ix2 b l) = share m p (chunkRow c b) l :=
  (load_apply (rsFull m c) p b l h).trans (stageFull_apply m p c b l)

/-- The running sum. -/
theorem accAt_apply (c : Dev nD) (b : Fin 64) (l : Fin 1024) (n : ℕ) :
    accAt m c n (ix2 b l) = share m c (chunkRow c b) l + ∑ k ∈ Finset.range n, share m (peer c k) (chunkRow c b) l := by
  induction n with
  | zero => rw [Finset.sum_range_zero, add_zero]; exact ownLoad_apply m c b l _
  | succ n ih =>
    rw [Finset.sum_range_succ, ← add_assoc, ← ih]
    exact congrArg (fun y : EReal => accAt m c n (ix2 b l) + y) (rsLoad_apply m c (peer c n) b l _)

/-- A finished chunk: every device's share. -/
theorem agVal_apply (c : Dev nD) (b : Fin 64) (l : Fin 1024) : agVal m c (ix2 b l) = ∑ d : Dev nD, share m d (chunkRow c b) l := by
  unfold agVal k0_pay21
  rw [shapeCast_self, truncf_apply, accAt_apply, ← Finset.sum_image (f := fun d => share m d (chunkRow c b) l) (fun a ha b hb h => peer_inj c ha hb h), peer_image,
    ← Finset.add_sum_erase Finset.univ _ (Finset.mem_univ c)]
  rfl

/-- The result: every device's share. -/
theorem outFull_apply (r l : Fin 1024) : outFull m (ix2 r l) = ∑ d : Dev nD, share m d r l := by
  unfold outFull
  refine (agVal_apply m _ _ _).trans (Finset.sum_congr rfl fun d _ => congrArg (fun r' => share m d r' l) (Fin.ext ?_))
  show 64 * (r.val / 64) + r.val % 64 = r.val
  omega

end Cert.Mlp

end
-- ==== Proof.Reference.lean ====
module

public import proofs.«01_k».proof.Proof.Gen.ReferenceIdeal.Read
public import proofs.«01_k».proof.Proof.Sums
public import Idealize.ShloMosaic.Lib.IdealHost

/-! What the reference's result is, element by element, over exact numbers. -/

@[expose] public section

noncomputable section

namespace Cert.Mlp

open Idealize.ShloMosaic Idealize.ShloMosaic.ValueIdx Cert.ReferenceIdeal Cert.ReferenceIdeal.Gen Cert.ReferenceIdeal.Read

variable (x : (⟨S1024x1024, .bf16⟩ : BufTy).Contents (Elt Ideal)) (w : (⟨S1024x32768, .bf16⟩ : BufTy).Contents (Elt Ideal)) (v : (⟨S32768x1024, .bf16⟩ : BufTy).Contents (Elt Ideal))

/-- A hidden unit: a row of the first layer's inputs weighted, and cut off at zero. -/
theorem hidden_apply (r : Fin 1024) (k : Fin 32768) :
    val_main_v3 (F := Ideal) x w (ix2 r k) = max (∑ j : Fin 1024, (x (ix2 r j) : EReal) * w (ix2 j k)) (0 : EReal) := by
  rw [val_main_v3_apply]
  refine congrArg₂ (max : EReal → EReal → EReal) ((val_main_v0_apply x w (ix2 r k)).trans (Finset.sum_congr rfl fun j _ => ?_)) ?_
  · rw [eq_ix2 (lidx_main_v0 (ix2 r k) j), eq_ix2 (ridx_main_v0 (ix2 r k) j)]
    rfl
  · rw [val_main_v2_apply, val_main_cst_apply]
    exact Ideal.ofBits_zero_bf16

/-- An element of the reference's result. -/
theorem reference_apply (r l : Fin 1024) : val_main_v5 (F := Ideal) x w v (ix2 r l)
    = unitSum 32768 (fun j : Fin 1024 => x (ix2 r j)) (fun j k => w (ix2 j k)) (fun k => v (ix2 k l)) := by
  rw [val_main_v5_apply]
  refine (val_main_v4_apply x w v (ix2 r l)).trans (Finset.sum_congr rfl fun k _ => ?_)
  rw [eq_ix2 (lidx_main_v4 (ix2 r l) k), eq_ix2 (ridx_main_v4 (ix2 r l) k)]
  exact congrArg (fun y : EReal => y * v (ix2 k l)) (hidden_apply x w r k)

end Cert.Mlp

end
-- ==== Proof.Equation.lean ====
module

public import proofs.«01_k».proof.Proof.Setup
public import proofs.«01_k».proof.Proof.Values
public import proofs.«01_k».proof.Proof.Reference
public import Idealize.ShloMosaic.Lib.Layout

/-! The equation: when every device holds the inputs and its part of the weights, the kernel's result is the
    reference's. -/

@[expose] public section

set_option maxRecDepth 100000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

/-- Element `(j, k)` of the columns that device `d` holds of the first layer's weights. -/
theorem columns_apply (v : (⟨2, ![1024, 32768]⟩ : Shape).Idx → EReal) (d : Fin 16) (j : Fin 1024) (k : Fin 2048) :
    Layout.block ⟨2, ![1024, 2048]⟩ ⟨2, ![1024, 32768]⟩ 1 16 d v (by decide) (ix2 j k) = v (ix2 j (unitOf 16 2048 d k)) := by
  rw [Layout.block_apply]
  refine congrArg v (funext fun a => Fin.ext ?_)
  match a with
  | ⟨0, _⟩ => rfl
  | ⟨1, _⟩ => exact (unitOf_val 16 2048 d k).symm

/-- Element `(k, l)` of the rows that device `d` holds of the second layer's weights. -/
theorem rows_apply (v : (⟨2, ![32768, 1024]⟩ : Shape).Idx → EReal) (d : Fin 16) (k : Fin 2048) (l : Fin 1024) :
    Layout.block ⟨2, ![2048, 1024]⟩ ⟨2, ![32768, 1024]⟩ 0 16 d v (by decide) (ix2 k l) = v (ix2 (unitOf 16 2048 d k) l) := by
  rw [Layout.block_apply]
  refine congrArg v (funext fun a => Fin.ext ?_)
  match a with
  | ⟨0, _⟩ => exact (unitOf_val 16 2048 d k).symm
  | ⟨1, _⟩ => rfl

variable (m : (ℓ : Loc nD τ sig) → Buf (Elt Ideal) ℓ)
  (x : (⟨2, ![1024, 1024]⟩ : Shape).Idx → EReal) (w : (⟨2, ![1024, 32768]⟩ : Shape).Idx → EReal) (v : (⟨2, ![32768, 1024]⟩ : Shape).Idx → EReal)

/-- The kernel's result is the reference's. -/
theorem result_eq
    (hx : ∀ c : Dev nD, m ((c.tc : Thread nD τ).loc main_arg0) = x)
    (hw : ∀ c : Dev nD, m ((c.tc : Thread nD τ).loc main_arg1) = Layout.block ⟨2, ![1024, 2048]⟩ ⟨2, ![1024, 32768]⟩ 1 16 c w)
    (hv : ∀ c : Dev nD, m ((c.tc : Thread nD τ).loc main_arg2) = Layout.block ⟨2, ![2048, 1024]⟩ ⟨2, ![32768, 1024]⟩ 0 16 c v) :
    outFull m = Cert.ReferenceIdeal.Read.val_main_v5 (F := Ideal) x w v := by
  refine funext fun i => ?_
  obtain ⟨r, l, rfl⟩ : ∃ r l : Fin 1024, i = ix2 r l := ⟨_, _, eq_ix2 i⟩
  rw [outFull_apply]
  refine (Finset.sum_congr rfl fun d _ => ?_).trans
    ((unitSum_blocks 16 2048 (fun j : Fin 1024 => x (ix2 r j)) (fun j k => w (ix2 j k)) (fun k => v (ix2 k l))).symm.trans (reference_apply x w v r l).symm)
  have ex : xstg m d = x := (blk_x _).trans (hx d)
  have ew : w1stg m d = Layout.block ⟨2, ![1024, 2048]⟩ ⟨2, ![1024, 32768]⟩ 1 16 d w := (blk_w1 _).trans (hw d)
  have ev : w2stg m d = Layout.block ⟨2, ![2048, 1024]⟩ ⟨2, ![32768, 1024]⟩ 0 16 d v := (blk_w2 _).trans (hv d)
  unfold share
  rw [ex, ew, ev]
  refine Finset.sum_congr rfl fun k _ => ?_
  refine congrArg₂ (fun a b : EReal => max a 0 * b) (Finset.sum_congr rfl fun j _ => ?_) (rows_apply v d k l)
  exact congrArg (fun a : EReal => x (ix2 r j) * a) (columns_apply w d j k)

end Cert.Mlp

end
-- ==== Proof.lean ====
/- The proof of the five claims about the sixteen-device feed-forward layer: the kernel, its reading over exact
   numbers, and the reference run to their end; the first two are the same program; and over exact numbers kernel and
   reference have the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- The kernel over any float values: it ends, its arguments are as they were, and its semaphores are at zero. -/
theorem frame_of {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.Mlp.run_main m g)

/-- Both printings of the kernel have one table of bodies: they agree at its only label, -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ =>
    refine funext fun a => ?_
    rcases a with ⟨t, s⟩
    rfl
  | ⟨n + 1, h⟩ => exact absurd h (by intro h; have h' : n + 1 < 1 := h; omega)

/-- and so have the whole programs. -/
theorem tables_same {F : FTy → Type} [FloatOps F] : Cert.Kernel.defs (F := F) = Cert.KernelIdeal.defs (F := F) := by
  unfold Cert.Kernel.defs Cert.KernelIdeal.defs
  exact congrArg (Pipeline.defs _) bodies_same

/-- The kernel as printed, over bit patterns: its text is the text of which the run was shown. -/
theorem frame_kernel : Cert.quiescent_Kernel := fun m g _ => by
  rw [tables_same]
  exact frame_of (F := Bits) m g

/-- The kernel over exact numbers. -/
theorem frame_ideal : Cert.quiescent_KernelIdeal := fun m g _ => frame_of (F := Ideal) m g

/-- The reference: its operations run one after the other, and none touches a semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- Over exact numbers both programs end with the same result, the reference's, and with their arguments unchanged. -/
theorem same_result : Cert.algebraic_KernelIdeal_ReferenceIdeal := fun m g m' g' _ h =>
  ⟨Cert.ReferenceIdeal.Read.val_main_v5 (F := Ideal) _ _ _,
    (θ_run Cert.KernelIdeal.defs _ _).mono (fun _ k c => ⟨(k.1 c).1.trans (Cert.Mlp.result_eq m _ _ _ (fun c => (h c).1) (fun c => (h c).2.1) (fun c => (h c).2.2)), (k.1 c).2⟩)
      (Cert.Mlp.run_main (F := Ideal) m g),
    (θ_run Cert.ReferenceIdeal.defs _ _).mono (fun _ k => ⟨(k 0).1.trans (Cert.ReferenceIdeal.Read.val_main_v5_eq _ _ _), (k 0).2⟩) (Cert.ReferenceIdeal.Value.run (F := Ideal) m' g')⟩

/-- The five claims. -/
theorem claim : Cert.Claim :=
  ⟨Cert.Kernel.Gen.facts, Cert.KernelIdeal.Gen.facts, Cert.ReferenceIdeal.Gen.facts, frame_kernel, frame_ideal, frame_reference, trivial, same_result⟩

end Cert.Proof

end
